-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 2, 64]⟩ ⟨4, ![2, 2048, 2, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 2, 64]⟩ ⟨4, ![2, 2048, 2, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v70) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S4x2x2x2x64x512 : Shape := ⟨6, ![4, 2, 2, 2, 64, 512]⟩
abbrev S3x2 : Shape := ⟨2, ![3, 2]⟩
abbrev S_ : Shape := ⟨0, ![]⟩
abbrev S1x512x1x64 : Shape := ⟨4, ![1, 512, 1, 64]⟩
abbrev S512x64 : Shape := ⟨2, ![512, 64]⟩
abbrev S64x512 : Shape := ⟨2, ![64, 512]⟩
abbrev S1x1x1x1x64x512 : Shape := ⟨6, ![1, 1, 1, 1, 64, 512]⟩
abbrev S1x1 : Shape := ⟨2, ![1, 1]⟩
abbrev S1x1x2x2x64x512 : Shape := ⟨6, ![1, 1, 2, 2, 64, 512]⟩
abbrev S2x2x64x512 : Shape := ⟨4, ![2, 2, 64, 512]⟩
abbrev S1x256x768 : Shape := ⟨3, ![1, 256, 768]⟩
abbrev S256x768 : Shape := ⟨2, ![256, 768]⟩
abbrev S256x512 : Shape := ⟨2, ![256, 512]⟩
abbrev S256x8x64 : Shape := ⟨3, ![256, 8, 64]⟩
abbrev S8x256x64 : Shape := ⟨3, ![8, 256, 64]⟩
abbrev S2x1024x64 : Shape := ⟨3, ![2, 1024, 64]⟩
abbrev S1x1024x64 : Shape := ⟨3, ![1, 1024, 64]⟩
abbrev S1024x64 : Shape := ⟨2, ![1024, 64]⟩
abbrev S1024x1 : Shape := ⟨2, ![1024, 1]⟩
abbrev S1024x512 : Shape := ⟨2, ![1024, 512]⟩
abbrev S1024 : Shape := ⟨1, ![1024]⟩
abbrev S4x256x64 : Shape := ⟨3, ![4, 256, 64]⟩
abbrev S256x4x64 : Shape := ⟨3, ![256, 4, 64]⟩
abbrev S256x256 : Shape := ⟨2, ![256, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x2x64, .bf16⟩
  | .hbm, ⟨3, _⟩ => ⟨S2x512x2x64, .bf16⟩
  | .hbm, ⟨4, _⟩ => ⟨S512x768, .bf16⟩
  | .hbm, ⟨5, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x2x64, .bf16⟩
  | .local _ .vmem, ⟨4, _⟩ => ⟨S2x512x2x64, .bf16⟩
  | .local _ .vmem, ⟨5, _⟩ => ⟨S2x256x768, .f32⟩
  | .local _ .vmem, ⟨6, _⟩ => ⟨S4x2x2x2x64x512, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_59 : BitVec 32 := 1#32
  let v40 : BitVec 32 := Scalar.muli v4 c1_i32_59
  let v41 : BitVec 32 := Scalar.addi c0_i32_60 v40
  v41.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_77 : BitVec 32 := 1#32
  let v50 : BitVec 32 := Scalar.muli v6 c1_i32_77
  let v51 : BitVec 32 := Scalar.addi c0_i32_78 v50
  v51.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_95 : BitVec 32 := 1#32
  let v60 : BitVec 32 := Scalar.muli v8 c1_i32_95
  let v61 : BitVec 32 := Scalar.addi c0_i32_96 v60
  v61.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_153 : BitVec 32 := 1#32
  let v94 : BitVec 32 := Scalar.muli v4 c1_i32_153
  let v95 : BitVec 32 := Scalar.addi c0_i32_154 v94
  v95.toNat
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_171 : BitVec 32 := 1#32
  let v104 : BitVec 32 := Scalar.muli v6 c1_i32_171
  let v105 : BitVec 32 := Scalar.addi c0_i32_172 v104
  v105.toNat
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_189 : BitVec 32 := 1#32
  let v114 : BitVec 32 := Scalar.muli v8 c1_i32_189
  let v115 : BitVec 32 := Scalar.addi c0_i32_190 v114
  v115.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S2x256x768 : Shape := ⟨3, ![2, 256, 768]⟩
abbrev S768x512 : Shape := ⟨2, ![768, 512]⟩
abbrev S2x2048x2x64 : Shape := ⟨4, ![2, 2048, 2, 64]⟩
abbrev S512x768 : Shape := ⟨2, ![512, 768]⟩
abbrev S2x256x512 : Shape := ⟨3, ![2, 256, 512]⟩
abbrev S2x256x8x64 : Shape := ⟨4, ![2, 256, 8, 64]⟩
abbrev S2x2048x2x4x64 : Shape := ⟨5, ![2, 2048, 2, 4, 64]⟩
abbrev S2x2048x8x64 : Shape := ⟨4, ![2, 2048, 8, 64]⟩
abbrev S_ : Shape := ⟨0, ![]⟩
abbrev S2x8x256x1 : Shape := ⟨4, ![2, 8, 256, 1]⟩
abbrev S2x1024x8x64 : Shape := ⟨4, ![2, 1024, 8, 64]⟩
abbrev S2x8x256x1024 : Shape := ⟨4, ![2, 8, 256, 1024]⟩
abbrev S2x8x256 : Shape := ⟨3, ![2, 8, 256]⟩
abbrev S2x256x8x1 : Shape := ⟨4, ![2, 256, 8, 1]⟩
abbrev S2x8x64x256 : Shape := ⟨4, ![2, 8, 64, 256]⟩

abbrev nBuf : Space → Nat
  | .hbm => 85
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x2048x2x64, .bf16⟩
  | .hbm, ⟨3, _⟩ => ⟨S2x2048x2x64, .bf16⟩
  | .hbm, ⟨4, _⟩ => ⟨S512x768, .bf16⟩
  | .hbm, ⟨5, _⟩ => ⟨S2x256x768, .f32⟩
  | .hbm, ⟨6, _⟩ => ⟨S768x512, .f32⟩
  | .hbm, ⟨7, _⟩ => ⟨S2x2048x2x64, .f32⟩
  | .hbm, ⟨8, _⟩ => ⟨S2x2048x2x64, .f32⟩
  | .hbm, ⟨9, _⟩ => ⟨S512x768, .f32⟩
  | .hbm, ⟨10, _⟩ => ⟨S2x256x512, .f32⟩
  | .hbm, ⟨11, _⟩ => ⟨S2x256x512, .bf16⟩
  | .hbm, ⟨12, _⟩ => ⟨S2x256x512, .f32⟩
  | .hbm, ⟨13, _⟩ => ⟨S2x256x8x64, .f32⟩
  | .hbm, ⟨14, _⟩ => ⟨S2x2048x2x4x64, .f32⟩
  | .hbm, ⟨15, _⟩ => ⟨S2x2048x8x64, .f32⟩
  | .hbm, ⟨16, _⟩ => ⟨S2x2048x2x4x64, .f32⟩
  | .hbm, ⟨17, _⟩ => ⟨S2x2048x8x64, .f32⟩
  | .hbm, ⟨18, _⟩ => ⟨S_, .f32⟩
  | .hbm, ⟨19, _⟩ => ⟨S2x256x8x64, .f32⟩
  | .hbm, ⟨20, _⟩ => ⟨S_, .f32⟩
  | .hbm, ⟨21, _⟩ => ⟨S2x8x256x1, .f32⟩
  | .hbm, ⟨22, _⟩ => ⟨S_, .f32⟩
  | .hbm, ⟨23, _⟩ => ⟨S2x8x256x1, .f32⟩
  | .hbm, ⟨24, _⟩ => ⟨S2x1024x8x64, .f32⟩
  | .hbm, ⟨25, _⟩ => ⟨S2x1024x8x64, .f32⟩
  | .hbm, ⟨26, _⟩ => ⟨S2x8x256x1024, .f32⟩
  | .hbm, ⟨27, _⟩ => ⟨S2x8x256x1024, .bf16⟩
  | .hbm, ⟨28, _⟩ => ⟨S2x8x256x1024, .f32⟩
  | .hbm, ⟨29, _⟩ => ⟨S_, .f32⟩
  | .hbm, ⟨30, _⟩ => ⟨S2x8x256x1024, .f32⟩
  | .hbm, ⟨31, _⟩ => ⟨S2x8x256x1024, .f32⟩
  | .hbm, ⟨32, _⟩ => ⟨S_, .f32⟩
  | .hbm, ⟨33, _⟩ => ⟨S2x8x256, .f32⟩
  | .hbm, ⟨34, _⟩ => ⟨S2x8x256x1, .f32⟩
  | .hbm, ⟨35, _⟩ => ⟨S2x8x256x1, .f32⟩
  | .hbm, ⟨36, _⟩ => ⟨S2x8x256x1, .f32⟩
  | .hbm, ⟨37, _⟩ => ⟨S2x8x256x1, .f32⟩
  | .hbm, ⟨38, _⟩ => ⟨S2x8x256x1024, .f32⟩
  | .hbm, ⟨39, _⟩ => ⟨S2x8x256x1024, .f32⟩
  | .hbm, ⟨40, _⟩ => ⟨S2x8x256x1024, .f32⟩
  | .hbm, ⟨41, _⟩ => ⟨S2x8x256x1, .f32⟩
  | .hbm, ⟨42, _⟩ => ⟨S_, .f32⟩
  | .hbm, ⟨43, _⟩ => ⟨S2x8x256, .f32⟩
  | .hbm, ⟨44, _⟩ => ⟨S2x8x256x1, .f32⟩
  | .hbm, ⟨45, _⟩ => ⟨S2x8x256x1, .f32⟩
  | .hbm, ⟨46, _⟩ => ⟨S2x256x8x1, .f32⟩
  | .hbm, ⟨47, _⟩ => ⟨S2x256x8x64, .f32⟩
  | .hbm, ⟨48, _⟩ => ⟨S2x256x8x64, .f32⟩
  | .hbm, ⟨49, _⟩ => ⟨S2x8x64x256, .f32⟩
  | .hbm, ⟨50, _⟩ => ⟨S2x256x8x64, .f32⟩
  | .hbm, ⟨51, _⟩ => ⟨S2x256x8x64, .f32⟩
  | .hbm, ⟨52, _⟩ => ⟨S2x1024x8x64, .f32⟩
  | .hbm, ⟨53, _⟩ => ⟨S2x1024x8x64, .f32⟩
  | .hbm, ⟨54, _⟩ => ⟨S2x8x256x1024, .f32⟩
  | .hbm, ⟨55, _⟩ => ⟨S2x8x256x1024, .bf16⟩
  | .hbm, ⟨56, _⟩ => ⟨S2x8x256x1024, .f32⟩
  | .hbm, ⟨57, _⟩ => ⟨S_, .f32⟩
  | .hbm, ⟨58, _⟩ => ⟨S2x8x256x1024, .f32⟩
  | .hbm, ⟨59, _⟩ => ⟨S2x8x256x1024, .f32⟩
  | .hbm, ⟨60, _⟩ => ⟨S_, .f32⟩
  | .hbm, ⟨61, _⟩ => ⟨S2x8x256, .f32⟩
  | .hbm, ⟨62, _⟩ => ⟨S2x8x256x1, .f32⟩
  | .hbm, ⟨63, _⟩ => ⟨S2x8x256x1, .f32⟩
  | .hbm, ⟨64, _⟩ => ⟨S2x8x256x1, .f32⟩
  | .hbm, ⟨65, _⟩ => ⟨S2x8x256x1, .f32⟩
  | .hbm, ⟨66, _⟩ => ⟨S2x8x256x1024, .f32⟩
  | .hbm, ⟨67, _⟩ => ⟨S2x8x256x1024, .f32⟩
  | .hbm, ⟨68, _⟩ => ⟨S2x8x256x1024, .f32⟩
  | .hbm, ⟨69, _⟩ => ⟨S2x8x256x1, .f32⟩
  | .hbm, ⟨70, _⟩ => ⟨S_, .f32⟩
  | .hbm, ⟨71, _⟩ => ⟨S2x8x256, .f32⟩
  | .hbm, ⟨72, _⟩ => ⟨S2x8x256x1, .f32⟩
  | .hbm, ⟨73, _⟩ => ⟨S2x8x256x1, .f32⟩
  | .hbm, ⟨74, _⟩ => ⟨S2x256x8x1, .f32⟩
  | .hbm, ⟨75, _⟩ => ⟨S2x256x8x64, .f32⟩
  | .hbm, ⟨76, _⟩ => ⟨S2x256x8x64, .f32⟩
  | .hbm, ⟨77, _⟩ => ⟨S2x8x64x256, .f32⟩
  | .hbm, ⟨78, _⟩ => ⟨S2x256x8x64, .f32⟩
  | .hbm, ⟨79, _⟩ => ⟨S2x256x8x64, .f32⟩
  | .hbm, ⟨80, _⟩ => ⟨S2x256x8x1, .f32⟩
  | .hbm, ⟨81, _⟩ => ⟨S2x256x8x64, .f32⟩
  | .hbm, ⟨82, _⟩ => ⟨S2x256x8x64, .f32⟩
  | .hbm, ⟨83, _⟩ => ⟨S2x256x512, .f32⟩
  | .hbm, ⟨84, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Proof.KernelIdeal.Protocol.lean ====
/-
# The all-gather of the key and value caches: cells, contents, schedule, levels

Four devices, each holding a quarter of the key and value caches. A device writes its own quarter, transposed, into
slot 0 of a four-slot scratch buffer and copies it (one copy per batch and peer: six copies) into slot `d` of the device
`d` places after it. Slot `d` of device `c` therefore ends holding the quarter of the device `d` places BEFORE `c`.

The handshake: before any copy, a device raises the barrier semaphore of each of its three peers, handing that peer the
slots the peer will write; it then waits for three units of its own. Each copy raises a send semaphore of its source and
a receive semaphore of its target; a device waits on its receive semaphores as it needs the slots, and on its send
semaphores at the end.

Transfers are numbered `s : Fin 6` as their semaphores are: `s = 2 * i + b` copies batch `b` to the device `i + 1` places on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy (duties `Unit`) and the ring's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `i + 1` places after `c`. -/
def peer (c : Dev nD) (i : Fin 3) : Dev nD := ⟨(c.val + (i.val + 1)) % 4, Nat.mod_lt _ (by decide)⟩
set_option backward.proofsInPublic true in
/-- The device `d` places before `c`: whose quarter slot `d` of `c` holds. -/
def src (c : Dev nD) (d : Fin 4) : Dev nD := ⟨(c.val + (4 - d.val)) % 4, Nat.mod_lt _ (by decide)⟩
set_option backward.proofsInPublic true in
/-- The way back: `c` is `rev i + 1` places after the device `i + 1` places after `c`. -/
def rev (i : Fin 3) : Fin 3 := ⟨2 - i.val, by omega⟩
set_option backward.proofsInPublic true in
/-- The slot the device `i + 1` places before a device writes on it. -/
def slot (i : Fin 3) : Fin 4 := ⟨i.val + 1, by omega⟩
set_option backward.proofsInPublic true in
/-- Transfer `s`'s peer, -/
def di (s : Fin 6) : Fin 3 := ⟨s.val / 2, by omega⟩
set_option backward.proofsInPublic true in
/-- and its batch. -/
def bi (s : Fin 6) : Fin 2 := ⟨s.val % 2, by omega⟩

theorem peer_rev (c : Dev nD) (i : Fin 3) : peer (peer c i) (rev i) = c := by revert c i; decide
theorem peer_rev' (c : Dev nD) (i : Fin 3) : peer (peer c (rev i)) i = c := by revert c i; decide
theorem rev_rev (i : Fin 3) : rev (rev i) = i := by revert i; decide
theorem src_peer (c : Dev nD) (i : Fin 3) : src (peer c i) (slot i) = c := by revert c i; decide
theorem src_zero (c : Dev nD) : src c 0 = c := by revert c; decide

/-- The devices in a circle, `i + 1` places at a time. -/
def ring (i : Fin 3) : Dev nD ≃ Dev nD := ⟨fun c => peer c i, fun c => peer c (rev i), fun c => peer_rev c i, fun c => peer_rev' c i⟩

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c (di 0) := Fin.ext (k0_dev4_eq c)
theorem dev5_eq (c : Dev nD) : (⟨k0_dev5 c, k0_dev5_lt c⟩ : Dev nD) = peer c (di 2) := Fin.ext (k0_dev5_eq c)
theorem dev6_eq (c : Dev nD) : (⟨k0_dev6 c, k0_dev6_lt c⟩ : Dev nD) = peer c (di 4) := Fin.ext (k0_dev6_eq c)
theorem dev7_eq (c : Dev nD) : (⟨k0_dev7 c, k0_dev7_lt c⟩ : Dev nD) = peer c (di 1) := Fin.ext (k0_dev7_eq c)
theorem dev8_eq (c : Dev nD) : (⟨k0_dev8 c, k0_dev8_lt c⟩ : Dev nD) = peer c (di 3) := Fin.ext (k0_dev8_eq c)
theorem dev9_eq (c : Dev nD) : (⟨k0_dev9 c, k0_dev9_lt c⟩ : Dev nD) = peer c (di 5) := Fin.ext (k0_dev9_eq c)

/-! ## The memrefs and cells -/

abbrev xM : Memref sig .tc .vmem S2x256x768 .bf16 := Memref.whole cc0_stg0_0
abbrev wqM : Memref sig .tc .vmem S768x512 .bf16 := Memref.whole cc0_stg1_0
abbrev woM : Memref sig .tc .vmem S512x768 .bf16 := Memref.whole cc0_stg2_0
abbrev kM : Memref sig .tc .vmem S2x512x2x64 .bf16 := Memref.whole cc0_stg3_0
abbrev vM : Memref sig .tc .vmem S2x512x2x64 .bf16 := Memref.whole cc0_stg4_0
abbrev oM : Memref sig .tc .vmem S2x256x768 .f32 := Memref.whole cc0_stg5_0
abbrev scM : Memref sig .tc .vmem S4x2x2x2x64x512 .bf16 := Memref.whole cc0_scratch0

theorem slot_inb (d : Fin 4) (b : Fin 2) :
    ∀ a, (![d.val, b.val, 0, 0, 0, 0] : Fin 6 → Nat) a + S1x1x2x2x64x512.size a ≤ S4x2x2x2x64x512.size a := by
  revert d b; decide
theorem slab_inb (d : Fin 4) (b kv kh : Fin 2) :
    ∀ a, (![d.val, b.val, kv.val, kh.val, 0, 0] : Fin 6 → Nat) a + S1x1x1x1x64x512.size a ≤ S4x2x2x2x64x512.size a := by
  revert d b kv kh; decide
theorem kv_inb (b kh : Fin 2) :
    ∀ a, (![b.val, 0, kh.val, 0] : Fin 4 → Nat) a + S1x512x1x64.size a ≤ S2x512x2x64.size a := by
  revert b kh; decide

/-- Slot `d`, batch `b`, of the scratch buffer: what one transfer moves. -/
abbrev slotR (d : Fin 4) (b : Fin 2) : Rect S4x2x2x2x64x512 :=
  Rect.unit (s := S4x2x2x2x64x512) ![d.val, b.val, 0, 0, 0, 0] S1x1x2x2x64x512.size (slot_inb d b)
abbrev slotM (d : Fin 4) (b : Fin 2) : Memref sig .tc .vmem S2x2x64x512 .bf16 :=
  (scM.slice (slotR d b) (fun _ => rfl)).squeeze S2x2x64x512 squeezes_S1x1x2x2x64x512_S2x2x64x512
/-- Of it, keys (`kv = 0`) or values (`kv = 1`) of key head `kh`: what one load reads. -/
abbrev slabR (d : Fin 4) (b kv kh : Fin 2) : Rect S4x2x2x2x64x512 :=
  Rect.unit (s := S4x2x2x2x64x512) ![d.val, b.val, kv.val, kh.val, 0, 0] S1x1x1x1x64x512.size (slab_inb d b kv kh)
/-- Batch `b`, key head `kh`, of a device's quarter of a cache. -/
abbrev kvR (b kh : Fin 2) : Rect S2x512x2x64 :=
  Rect.unit (s := S2x512x2x64) ![b.val, 0, kh.val, 0] S1x512x1x64.size (kv_inb b kh)

/-- The runtime's barrier semaphore of collective id 0 (unscoped), -/
abbrev barS : Sem sig := (SemArray.scalar (sig.barrier 0 rfl) : Sems sig S_).sem
set_option backward.proofsInPublic true in
/-- and the twelve DMA semaphores (scoped scratch): `0..5` of the sends, `6..11` of the receives. -/
def dS (k : Fin 12) : DmaSem sig := ⟨6 + k.val, by have := k.isLt; show 6 + k.val < 18; omega⟩
set_option backward.proofsInPublic true in
def sI (s : Fin 6) : Fin 12 := ⟨s.val, by omega⟩
set_option backward.proofsInPublic true in
def rI (s : Fin 6) : Fin 12 := ⟨6 + s.val, by omega⟩
abbrev sendS (s : Fin 6) : DmaSem sig := dS (sI s)
abbrev recvS (s : Fin 6) : DmaSem sig := dS (rI s)

abbrev barCell (c : Dev nD) : GSem nD τ sig := ((c : Thread nD τ), .reg barS)
abbrev sendCell (c : Dev nD) (s : Fin 6) : GSem nD τ sig := ((c : Thread nD τ), .dma (sendS s))
abbrev recvCell (c : Dev nD) (s : Fin 6) : GSem nD τ sig := ((c : Thread nD τ), .dma (recvS s))

/-- The kernel's OWN (scoped) semaphores, as the launch theorem indexes them; -/
abbrev osem : Fin 12 → SemLoc sig := fun k => .dma (dS k)
/-- all thirteen of the ring's, as this proof indexes them: the barrier, then those. -/
def csem : Option (Fin 12) → SemLoc sig
  | none => .reg barS
  | some k => .dma (dS k)
abbrev kcell (ck : Dev nD × Option (Fin 12)) : GSem nD τ sig := ((ck.1 : Thread nD τ), csem ck.2)

/-- The credit of one transfer. -/
def N : ℕ := (slotM 0 0).view.dmaCredit
theorem N_eq (d : Fin 4) (b : Fin 2) : (slotM d b).view.dmaCredit = N := rfl
theorem N_pos : 0 < N := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def wostg (c : Dev nD) : (cc0_stg2_0 : Ref sig .tc).ty.Contents (Elt F) :=
  (win0_2.blk (0 : Fin 1)).view.read (Elt F) ((s₀ m ρ).mem ((c : Thread nD τ).loc main_arg4))
def kstg (c : Dev nD) : (cc0_stg3_0 : Ref sig .tc).ty.Contents (Elt F) :=
  (win0_3.blk (0 : Fin 1)).view.read (Elt F) ((s₀ m ρ).mem ((c : Thread nD τ).loc main_arg2))
def vstg (c : Dev nD) : (cc0_stg4_0 : Ref sig .tc).ty.Contents (Elt F) :=
  (win0_4.blk (0 : Fin 1)).view.read (Elt F) ((s₀ m ρ).mem ((c : Thread nD τ).loc main_arg3))

/-- What a load of batch `b`, key head `kh`, of device `e`'s keys (`kv = 0`) or values (`kv = 1`) reads, -/
def kvread (e : Dev nD) (b kv kh : Fin 2) : Vec F S1x512x1x64 .bf16 :=
  match kv with
  | 0 => kM.view.readAt (Elt F) (kvR b kh).toLoadRect (kstg m ρ e)
  | 1 => vM.view.readAt (Elt F) (kvR b kh).toLoadRect (vstg m ρ e)
/-- and the slab the kernel makes of it: transposed. -/
def slab (e : Dev nD) (b kv kh : Fin 2) : Vec F S1x1x1x1x64x512 .bf16 := k0_pay1 (kvread m ρ e b kv kh)

set_option backward.proofsInPublic true in
/-- An index of the scratch buffer as one of the slab that holds it. -/
def inSlab (i : S4x2x2x2x64x512.Idx) : S1x1x1x1x64x512.Idx :=
  fun a => ⟨if a.val < 4 then 0 else (i a).val, by
    have h := (i a).isLt
    fin_cases a <;> first | exact Nat.one_pos | exact h⟩

/-- The scratch buffer of device `c` once everything has landed: slot `d` holds the quarter of the device `d` places before. -/
def full (c : Dev nD) : Buf (Elt F) ((c : Thread nD τ).loc cc0_scratch0) :=
  fun (i : S4x2x2x2x64x512.Idx) => slab m ρ (src c (i 0)) (i 1) (i 2) (i 3) (inSlab i)

/-- Slot `d`, batch `b`, of device `c`'s scratch buffer, at share `q` and contents `f`. -/
def pts (c : Dev nD) (d : Fin 4) (b : Fin 2) (q : PosShare TreeShare) (f : Buf (Elt F) ((c : Thread nD τ).loc cc0_scratch0)) : sProp 𝕄 :=
  (slotM d b).view.loc (c : Thread nD τ) ↦[(slotM d b).view.set]{q} f

omit [FloatOps F] [Named F] in
instance pts_storable (c : Dev nD) (d b q f) : BI.Storable (upEmb : UEmb _ 𝕄) (pts (F := F) c d b q f) := by unfold pts; infer_instance

/-- The shares slot 0 is held at while its copies are in flight: one to each copy, the last to the loads. -/
def sh : Fin 3 → PosShare TreeShare
  | 0 => fullShare.left.left
  | 1 => fullShare.left.right
  | 2 => fullShare.right.left
def shL : PosShare TreeShare := fullShare.right.right

/-! ## The schedule -/

/-- What the device `i + 1` places after `c` hands `c` with its signal: the two slots of its scratch buffer `c` writes. -/
def barPay (c : Dev nD) (i : Fin 3) : sProp 𝕄 :=
  iprop((∃ f, pts (peer c i) (slot i) 0 fullShare f) ∗ ∃ f, pts (peer c i) (slot i) 1 fullShare f)
/-- What a landed transfer hands its target: the slot, full; -/
def recvPay (c : Dev nD) (s : Fin 6) : sProp 𝕄 := pts c (slot (di s)) (bi s) fullShare (full m ρ c)
/-- and its source: the share of slot 0 it read. -/
def sendPay (c : Dev nD) (s : Fin 6) : sProp 𝕄 := pts c 0 (bi s) (sh (di s)) (full m ρ c)

abbrev IsBar (g : GSem nD τ sig) : Prop := g.1.2 = .tc ∧ g.2 = .reg barS
/-- Whether a cell is one of the twelve transfers'. -/
def isX : SemLoc sig → Bool
  | .dma q => decide (6 ≤ q.val)
  | .reg _ => false
abbrev IsXfer (g : GSem nD τ sig) : Prop := g.1.2 = .tc ∧ isX g.2 = true
set_option backward.proofsInPublic true in
/-- The transfer a DMA semaphore belongs to. -/
def six (q : DmaSem sig) : Fin 6 := ⟨q.val % 6, Nat.mod_lt _ (by decide)⟩

def payOf (c : Dev nD) (sm : SemLoc sig) (d : Fin 3) : sProp 𝕄 :=
  match sm with
  | .reg _ => barPay c d
  | .dma q => if 12 ≤ q.val then recvPay m ρ c (six q) else sendPay m ρ c (six q)

/-- One round, round 0: a barrier cell has three duties of one unit, duty `i` paid by the device `i + 1` places on; a send
    or receive cell one duty of a transfer's credit. -/
def ringRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance ringRd_payload_storable (g : GSem nD τ sig) (r : ℕ) (d : Fin 3) :
    BI.Storable (upEmb : UEmb _ 𝕄) ((ringRd (F := F) m ρ).payload g r d) := by
  show BI.Storable upEmb (payOf m ρ g.1.1 g.2 d)
  unfold payOf barPay recvPay sendPay
  (repeat' split) <;> infer_instance

section Sched
variable (c : Dev nD) (s : Fin 6)

theorem dma_ne_bar (k : DmaSem sig) : (SemLoc.dma k : SemLoc sig) ≠ .reg barS := fun h => by cases h

theorem duties_bar : (ringRd (F := F) m ρ).duties (barCell c) 0 = Finset.univ := by dsimp only [ringRd]; exact if_pos ⟨rfl, rfl, rfl⟩
theorem duties_dma (k : Fin 12) : (ringRd (F := F) m ρ).duties ((c : Thread nD τ), .dma (dS k)) 0 = {0} := by
  dsimp only [ringRd]; rw [if_neg (fun h => dma_ne_bar _ h.2.2)]
  refine if_pos ⟨rfl, rfl, ?_⟩
  show decide (6 ≤ 6 + k.val) = true
  exact decide_eq_true (Nat.le_add_right 6 _)
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 3) : (ringRd (F := F) m ρ).amount (barCell c) 0 d = 1 := by dsimp only [ringRd]; exact if_pos rfl
theorem amount_dma (k : DmaSem sig) (d : Fin 3) : (ringRd (F := F) m ρ).amount ((c : Thread nD τ), .dma k) 0 d = N := by
  dsimp only [ringRd]; exact if_neg (dma_ne_bar k)

theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_dma (k : Fin 12) : (ringRd (F := F) m ρ).expect ((c : Thread nD τ), .dma (dS k)) 0 = N := by
  unfold Schedule.expect Schedule.amountOf; rw [duties_dma, Finset.sum_singleton, amount_dma]

theorem payload_bar (d : Fin 3) : (ringRd (F := F) m ρ).payload (barCell c) 0 d = barPay c d := rfl
theorem payload_send (d : Fin 3) : (ringRd (F := F) m ρ).payload (sendCell c s) 0 d = sendPay m ρ c s := by
  show (if 12 ≤ 6 + s.val then recvPay m ρ c (six (sendS s)) else sendPay m ρ c (six (sendS s))) = _
  rw [if_neg (by have := s.isLt; omega), show six (sendS s) = s by revert s; decide]
theorem payload_recv (d : Fin 3) : (ringRd (F := F) m ρ).payload (recvCell c s) 0 d = recvPay m ρ c s := by
  show (if 12 ≤ 6 + (6 + s.val) then recvPay m ρ c (six (recvS s)) else sendPay m ρ c (six (recvS s))) = _
  rw [if_pos (by omega), show six (recvS s) = s by revert s; decide]

/-- The rest of the barrier cell's round, no duty taken: the three peers' slots. -/
theorem rest_bar : bigSep ((ringRd (F := F) m ρ).duties (barCell c) 0 \ ∅) (fun d => (ringRd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
theorem rest_send : bigSep ((ringRd (F := F) m ρ).duties (sendCell c s) 0 \ ∅) (fun d => (ringRd (F := F) m ρ).payload (sendCell c s) 0 d) = sendPay m ρ c s := by
  rw [Finset.sdiff_empty, duties_dma, bigSep_singleton, payload_send]
theorem rest_recv : bigSep ((ringRd (F := F) m ρ).duties (recvCell c s) 0 \ ∅) (fun d => (ringRd (F := F) m ρ).payload (recvCell c s) 0 d) = recvPay m ρ c s := by
  rw [Finset.sdiff_empty, duties_dma, bigSep_singleton, payload_recv]

end Sched

/-! ## What each core owes at launch; the levels -/

/-- The receive credit device `c` owes for the transfers of a list, the first of the list peeling first. -/
def owe (c : Dev nD) : List (Fin 6) → CellTallies nD τ sig Unit
  | [] => 0
  | s :: l => owe c l + tallyAt (recvCell (peer c (di s)) s) () N

/-- The transfers in the order they start. -/
abbrev order : List (Fin 6) := [0, 2, 4, 1, 3, 5]

def O₂ (c : Dev nD) : CellTallies nD τ sig Unit := owe c order + tallyAt (barCell (peer c 2)) () 1
def O₁ (c : Dev nD) : CellTallies nD τ sig Unit := O₂ c + tallyAt (barCell (peer c 1)) () 1
/-- At launch: the six transfers' receive credits and the three signals, the first signal peeling first. -/
def O₀ (c : Dev nD) : CellTallies nD τ sig Unit := O₁ c + tallyAt (barCell (peer c 0)) () 1

def L (g : GSem nD τ sig) : Finset Unit := if g.1.2 = .tc then {()} else ∅
/-- barrier cells at 1, receive cells at 2, everything else (staging, send) at 0. -/
def lv (g : GSem nD τ sig) (_ : Unit) : ℕ :=
  match g.2 with
  | .reg _ => 1
  | .dma q => if 12 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (s : Fin 6) (u : Unit) : lv (recvCell c s) u = 2 := if_pos (by show 12 ≤ 6 + (6 + s.val); omega)

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem add_pos' {a b : CellTallies nD τ sig Unit} {g : GSem nD τ sig} {u : Unit} (h : 0 < (a + b) g u) : 0 < a g u ∨ 0 < b g u := by
  rw [Pi.add_apply, Finsupp.add_apply] at h; omega

theorem owe_pos {c : Dev nD} {l : List (Fin 6)} {g : GSem nD τ sig} {u : Unit} (h : 0 < owe c l g u) :
    ∃ c' s, g = recvCell c' s := by
  induction l with
  | nil => exact absurd h (Nat.lt_irrefl 0)
  | cons s l ih =>
    rcases add_pos' h with h | h
    · exact ih h
    · exact ⟨_, _, tally_pos h⟩
theorem O₀_pos {c : Dev nD} {g : GSem nD τ sig} {u : Unit} (h : 0 < O₀ c g u) :
    (∃ c' s, g = recvCell c' s) ∨ ∃ c', g = barCell c' := by
  unfold O₀ O₁ O₂ at h
  rcases add_pos' h with h | h
  · rcases add_pos' h with h | h
    · rcases add_pos' h with h | h
      · exact .inl (owe_pos h)
      · exact .inr ⟨_, tally_pos h⟩
    · exact .inr ⟨_, tally_pos h⟩
  · exact .inr ⟨_, tally_pos h⟩

theorem mayWait_stage (c : Dev nD) (q : DmaSem sig) (hq : ¬ 12 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; show (if 12 ≤ q.val then 2 else 0) ≤ 0; rw [if_neg hq])
      (fun g u hg => by
        rcases O₀_pos hg with ⟨_, _, rfl⟩ | ⟨_, rfl⟩
        · rw [lv_recv]; decide
        · rw [lv_bar]; decide)
  · rw [MayWait_zero]; iintro -; iempintro

/-- At its barrier wait a device owes receive credits only: receive cells, above its barrier cell. -/
theorem mayWait_bar (c : Dev nD) :
    (levAts L lv : sProp 𝕄) ⊢ MayWait (c : Thread nD τ) (.reg barS) () (owe c order) :=
  MayOwe.of_cut (L := L) (lev := lv) 1 (fun p hp => by rw [Finset.mem_singleton.mp hp, L_tc]; exact Finset.mem_singleton_self _)
    (fun g u hg => by obtain ⟨_, _, rfl⟩ := owe_pos hg; exact Finset.mem_singleton_self _)
    (fun p hp => by rw [Finset.mem_singleton.mp hp]; exact Nat.le_refl 1)
    (fun g u hg => by obtain ⟨_, _, rfl⟩ := owe_pos hg; rw [lv_recv]; decide)

end Cert.KernelIdealProof

end
-- ==== Proof.KernelIdeal.Steps.lean ====
/-
# The all-gather's steps: what a load reads, what the stores and the landings leave, one rule per effect

Each rule is the library's (`Rounds.wp_signal`, `Rounds.wp_send_pointsTo`, `Rounds.wp_wait_rest_token`, `wp_load`,
`wp_store`) at the schedule of Proof/KernelIdeal/Protocol.lean, for a symbolic device and transfer.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## Sets and contents -/

theorem slot_set (d : Fin 4) (b : Fin 2) : (slotM d b).view.set = (slotR d b).set := by
  show (((View.whole cc0_scratch0).slice (slotR d b)).reshape _ _).set = _
  rw [View.set_reshape, View.set_slice_whole]

theorem mem_slot {d : Fin 4} {b : Fin 2} {i : S4x2x2x2x64x512.Idx} : i ∈ (slotR d b).set ↔ (i 0).val = d.val ∧ (i 1).val = b.val := by
  rw [Rect.mem_set_unit]
  constructor
  · intro h
    have h0 : d.val ≤ (i 0).val ∧ (i 0).val < d.val + 1 := h 0
    have h1 : b.val ≤ (i 1).val ∧ (i 1).val < b.val + 1 := h 1
    omega
  · rintro ⟨h0, h1⟩ a
    have hi := (i a).isLt
    fin_cases a
    · exact ⟨Nat.le_of_eq h0.symm, by show (i 0).val < d.val + 1; omega⟩
    · exact ⟨Nat.le_of_eq h1.symm, by show (i 1).val < b.val + 1; omega⟩
    all_goals exact ⟨Nat.zero_le _, by simpa using hi⟩

theorem mem_slab {d : Fin 4} {b kv kh : Fin 2} {i : S4x2x2x2x64x512.Idx} :
    i ∈ (slabR d b kv kh).set ↔ (i 0).val = d.val ∧ (i 1).val = b.val ∧ (i 2).val = kv.val ∧ (i 3).val = kh.val := by
  rw [Rect.mem_set_unit]
  constructor
  · intro h
    have h0 : d.val ≤ (i 0).val ∧ (i 0).val < d.val + 1 := h 0
    have h1 : b.val ≤ (i 1).val ∧ (i 1).val < b.val + 1 := h 1
    have h2 : kv.val ≤ (i 2).val ∧ (i 2).val < kv.val + 1 := h 2
    have h3 : kh.val ≤ (i 3).val ∧ (i 3).val < kh.val + 1 := h 3
    omega
  · rintro ⟨h0, h1, h2, h3⟩ a
    have hi := (i a).isLt
    fin_cases a
    · exact ⟨Nat.le_of_eq h0.symm, by show (i 0).val < d.val + 1; omega⟩
    · exact ⟨Nat.le_of_eq h1.symm, by show (i 1).val < b.val + 1; omega⟩
    · exact ⟨Nat.le_of_eq h2.symm, by show (i 2).val < kv.val + 1; omega⟩
    · exact ⟨Nat.le_of_eq h3.symm, by show (i 3).val < kh.val + 1; omega⟩
    all_goals exact ⟨Nat.zero_le _, by simpa using hi⟩

theorem slab_subset (d : Fin 4) (b kv kh : Fin 2) : (slabR d b kv kh).set ⊆ (slotR d b).set := fun i hi => by
  have h := mem_slab.mp hi
  exact mem_slot.mpr ⟨h.1, h.2.1⟩

theorem emb_in (d : Fin 4) (b kv kh : Fin 2) (x : S1x1x1x1x64x512.Idx) : (slabR d b kv kh).emb x ∈ (slabR d b kv kh).set := by
  rw [← Rect.map_emb_univ]; exact Finset.mem_map_of_mem _ (Finset.mem_univ x)

theorem emb_in_slot (d : Fin 4) (b : Fin 2) (x : S1x1x2x2x64x512.Idx) : (slotR d b).emb x ∈ (slotR d b).set := by
  rw [← Rect.map_emb_univ]; exact Finset.mem_map_of_mem _ (Finset.mem_univ x)

theorem slab_emb (d : Fin 4) (b kv kh : Fin 2) (x : S1x1x1x1x64x512.Idx) :
    ((slabR d b kv kh).emb x 0 : Fin 4) = d ∧ ((slabR d b kv kh).emb x 1 : Fin 2) = b ∧ ((slabR d b kv kh).emb x 2 : Fin 2) = kv
      ∧ ((slabR d b kv kh).emb x 3 : Fin 2) = kh ∧ inSlab ((slabR d b kv kh).emb x) = x := by
  have h := mem_slab.mp (emb_in d b kv kh x)
  refine ⟨Fin.ext h.1, Fin.ext h.2.1, Fin.ext h.2.2.1, Fin.ext h.2.2.2, funext fun a => Fin.ext ?_⟩
  have hx := (x a).isLt
  fin_cases a
  · exact (Nat.lt_one_iff.mp hx).symm
  · exact (Nat.lt_one_iff.mp hx).symm
  · exact (Nat.lt_one_iff.mp hx).symm
  · exact (Nat.lt_one_iff.mp hx).symm
  · show 0 + 1 * (x 4).val = (x 4).val; omega
  · show 0 + 1 * (x 5).val = (x 5).val; omega

theorem full_emb (c : Dev nD) (d : Fin 4) (b kv kh : Fin 2) (x : S1x1x1x1x64x512.Idx) :
    full m ρ c ((slabR d b kv kh).emb x) = slab m ρ (src c d) b kv kh x := by
  obtain ⟨h0, h1, h2, h3, h4⟩ := slab_emb d b kv kh x
  unfold full
  rw [h0, h1, h2, h3, h4]

theorem read_full (c : Dev nD) (d : Fin 4) (b kv kh : Fin 2) :
    (scM : Memref sig .tc .vmem S4x2x2x2x64x512 .bf16).view.readAt (Elt F) (slabR d b kv kh).toLoadRect (full m ρ c) = slab m ρ (src c d) b kv kh :=
  funext fun x => full_emb m ρ c d b kv kh x

/-- What a landing leaves on its target's slot is what `full` says. -/
theorem landed_eq (c : Dev nD) (i : Fin 3) (b : Fin 2) (fd : Buf (Elt F) ((peer c i : Thread nD τ).loc cc0_scratch0)) :
    ∀ j ∈ (slotM (slot i) b).view.set,
      (slotM (slot i) b).view.write (Elt F) fd ((slotM 0 b).view.read (Elt F) (full m ρ c)) Finset.univ j = full m ρ (peer c i) j := by
  intro j hj
  obtain ⟨x, -, rfl⟩ := Finset.mem_map.mp hj
  rw [View.write_emb_of_mem _ _ (Finset.mem_univ x)]
  show full m ρ c ((slotR 0 b).emb _) = full m ρ (peer c i) ((slotR (slot i) b).emb _)
  generalize (Shape.reshapeEquiv _ x : S1x1x2x2x64x512.Idx) = y
  have hy0 : (y 0).val = 0 := by have : (y 0).val < 1 := (y 0).isLt; omega
  have e0 : @Eq (Fin 4) ((slotR 0 b).emb y 0) (0 : Fin 4) := Fin.ext (mem_slot.mp (emb_in_slot 0 b y)).1
  have e0' : ((slotR (slot i) b).emb y 0 : Fin 4) = slot i := Fin.ext (mem_slot.mp (emb_in_slot (slot i) b y)).1
  have e1 : ((slotR 0 b).emb y 1 : Fin 2) = (slotR (slot i) b).emb y 1 := rfl
  have e2 : ((slotR 0 b).emb y 2 : Fin 2) = (slotR (slot i) b).emb y 2 := rfl
  have e3 : ((slotR 0 b).emb y 3 : Fin 2) = (slotR (slot i) b).emb y 3 := rfl
  have e4 : inSlab ((slotR 0 b).emb y) = inSlab ((slotR (slot i) b).emb y) := funext fun a => by fin_cases a <;> rfl
  unfold full
  rw [e0, e0', e1, e2, e3, e4, src_peer]
  exact congrArg (fun c' => slab m ρ c' _ _ _ _) (src_zero c)

/-! ## The buffer as its eight slots -/

theorem pts_eq (c : Dev nD) (d : Fin 4) (b : Fin 2) (q : PosShare TreeShare) (f : Buf (Elt F) ((c : Thread nD τ).loc cc0_scratch0)) :
    (pts c d b q f : sProp 𝕄) = (((c : Thread nD τ).loc cc0_scratch0) ↦[(slotR d b).set]{q} f) := by
  unfold pts; rw [slot_set]

theorem pts_congr (c : Dev nD) (d : Fin 4) (b : Fin 2) (q : PosShare TreeShare) {f g : Buf (Elt F) ((c : Thread nD τ).loc cc0_scratch0)}
    (h : ∀ i ∈ (slotR d b).set, f i = g i) : (pts c d b q f : sProp 𝕄) = pts c d b q g := by
  rw [pts_eq, pts_eq]; exact pointsTo_congr h

theorem slots_disjoint : ∀ db db' : Fin 4 × Fin 2, db ≠ db' → Disjoint (slotR db.1 db.2).set (slotR db'.1 db'.2).set := by
  rintro ⟨d, b⟩ ⟨d', b'⟩ hne
  refine Finset.disjoint_left.mpr fun i hi hi' => hne ?_
  have h := mem_slot.mp hi; have h' := mem_slot.mp hi'
  exact Prod.ext (Fin.ext (h.1.symm.trans h'.1)) (Fin.ext (h.2.symm.trans h'.2))

theorem slots_cover : (Finset.univ : Finset (Fin 4 × Fin 2)).biUnion (fun db => (slotR db.1 db.2).set) = Finset.univ := by
  refine Finset.eq_univ_iff_forall.mpr fun (i : S4x2x2x2x64x512.Idx) => Finset.mem_biUnion.mpr ⟨(i 0, i 1), Finset.mem_univ _, mem_slot.mpr ⟨rfl, rfl⟩⟩

theorem whole_eq (c : Dev nD) (f : Buf (Elt F) ((c : Thread nD τ).loc cc0_scratch0)) :
    (((c : Thread nD τ).loc cc0_scratch0) ↦{fullShare} f : sProp 𝕄)
      = iprop(pts c 0 0 fullShare f ∗ pts c 0 1 fullShare f ∗ pts c 1 0 fullShare f ∗ pts c 1 1 fullShare f
        ∗ pts c 2 0 fullShare f ∗ pts c 2 1 fullShare f ∗ pts c 3 0 fullShare f ∗ pts c 3 1 fullShare f) := by
  have h := pointsTo_biUnion (ℓ := (c : Thread nD τ).loc cc0_scratch0) (q := fullShare) (f := f) (Ix := Unit) (Name := ℕ) (U := UU) (Lvl := ℕ) Finset.univ
    (fun db : Fin 4 × Fin 2 => (slotR db.1 db.2).set) (fun db _ db' _ h => slots_disjoint db db' h)
  rw [slots_cover] at h
  rw [h, bigSep_univ_eq_bigSepL [((0 : Fin 4), (0 : Fin 2)), (0, 1), (1, 0), (1, 1), (2, 0), (2, 1), (3, 0), (3, 1)] (by decide) (by decide)]
  simp only [pts_eq]
  rfl

theorem pts_half (c : Dev nD) (d : Fin 4) (b : Fin 2) (q : PosShare TreeShare) (f : Buf (Elt F) ((c : Thread nD τ).loc cc0_scratch0)) :
    (pts c d b q f : sProp 𝕄) = iprop(pts c d b q.left f ∗ pts c d b q.right f) := by
  unfold pts
  exact BI.Entails.antisymm (pointsTo_share (PosShare.mem_left_op_right q)).1 (pointsTo_share (PosShare.mem_left_op_right q)).2

/-- Slot 0 split among the three copies and the loads. -/
theorem pts_shares (c : Dev nD) (b : Fin 2) (f : Buf (Elt F) ((c : Thread nD τ).loc cc0_scratch0)) :
    (pts c 0 b fullShare f : sProp 𝕄)
      = iprop((pts c 0 b (sh 0) f ∗ pts c 0 b (sh 1) f) ∗ pts c 0 b (sh 2) f ∗ pts c 0 b shL f) := by
  rw [pts_half c 0 b fullShare, pts_half c 0 b fullShare.left, pts_half c 0 b fullShare.right]
  rfl

/-! ## The cells' invariants -/

/-- Every cell's invariant, and that every cell has reached round 0. -/
def records (K : Dev nD × Option (Fin 12) → ℕ) : sProp 𝕄 :=
  iprop((bigSep Finset.univ fun ck : Dev nD × Option (Fin 12) => cellInv ER (ringRd m ρ) (K ck) (kcell ck))
    ∗ bigSep Finset.univ fun ck : Dev nD × Option (Fin 12) => reached ER (kcell ck) 0)

instance records_persistent (K : Dev nD × Option (Fin 12) → ℕ) : BI.Persistent (records m ρ K) := by unfold records; infer_instance

theorem inv_at (K : Dev nD × Option (Fin 12) → ℕ) (ck : Dev nD × Option (Fin 12)) :
    (records m ρ K : sProp 𝕄) ⊢ cellInv ER (ringRd m ρ) (K ck) (kcell ck) := by
  unfold records
  exact BI.Entails.trans BI.sep_and (and_elimL.trans (bigSep_elim (Finset.mem_univ ck)))
theorem reached_at (K : Dev nD × Option (Fin 12) → ℕ) (ck : Dev nD × Option (Fin 12)) :
    (records m ρ K : sProp 𝕄) ⊢ reached ER (kcell ck) 0 := by
  unfold records
  exact BI.Entails.trans BI.sep_and (and_elimR.trans (bigSep_elim (Φ := fun ck => reached ER (kcell ck) 0) (Finset.mem_univ ck)))

/-- What core `c` owes, whatever it has waited on. -/
def ow (c : Dev nD) (O : CellTallies nD τ sig Unit) : sProp 𝕄 := iprop(∃ W, owes (c : Thread nD τ) O W)

section Steps

variable (K : Dev nD × Option (Fin 12) → ℕ) (c : Dev nD)

/-- The signal to the device `i + 1` places on: it is handed the two slots of this device's buffer it writes. -/
theorem step_signal {α : Type} {Φ : α → sProp 𝕄} {k : PUnit → Prog (TpuEff nD τ sig (Elt F) Λ₀ .tc) α} (i : Fin 3) {O₁ O : CellTallies nD τ sig Unit} (hO : O₁ = O + tallyAt (barCell (peer c i)) () 1)
    {n : Dev nD} (hn : n = peer c i) {sm : Sem sig} (hsm : sm = barS) {w : Nat} (hw : w = 1) :
    iprop(records m ρ K ∗ ow c O₁ ∗ dutyTok ER (barCell (peer c i)) 0 (rev i) ∗ (∃ f, pts c (slot (rev i)) 0 fullShare f) ∗ ∃ f, pts c (slot (rev i)) 1 fullShare f)
      ⊢ iprop((ow c O -∗ wp frame (wpE (defs₀ (F := F)) 𝒱₀ (c : Thread nD τ) none) Set.univ (k ⟨⟩) Φ) -∗ wp frame (wpE (defs₀ (F := F)) 𝒱₀ (c : Thread nD τ) none) Set.univ (.op (.semSignal (n : Thread nD τ) sm w) k) Φ) := by
  subst hn; subst hsm; subst hw
  unfold ow
  iintro ⟨#HR, ⟨%W, HO⟩, Ht, Hp⟩ Hk
  iapply (Rounds.wp_signal 𝒱₀ ER (ringRd m ρ) (c : Thread nD τ) none (dst := (peer c i : Thread nD τ)) (κ := K (peer c i, none))
      (d := rev i) (by rw [duties_bar]; exact Finset.mem_univ _) (amount_bar m ρ (peer c i) (rev i)) () O hO (W := W)) $$ [HO Ht Hp]
  · isplitr; · iapply (inv_at m ρ K (peer c i, none)); iexact HR
    isplitl [HO]; · iexact HO
    isplitl [Ht]; · iexact Ht
    isplitl [Hp]
    · rw [payload_bar]; unfold barPay; rw [peer_rev]; iexact Hp
    · iapply (reached_at m ρ K (peer c i, none)); iexact HR
  iintro HO
  iapply Hk; iexists W; iexact HO

/-- The wait for the three signals: the three peers' slots come with it. -/
theorem step_barrier {α : Type} {Φ : α → sProp 𝕄} {k : PUnit → Prog (TpuEff nD τ sig (Elt F) Λ₀ .tc) α} {sm : Sem sig} (hsm : sm = barS) {w : Nat} (hw : w = 3) :
    iprop(records m ρ K ∗ levAts L lv ∗ cred (tallyAt (barCell c) () 3) ∗ ow c (owe c order) ∗ atPos ER (barCell c) 0 ∅ 0)
      ⊢ iprop(((ow c (owe c order) ∗ semVal (barCell c) 0 ∗ barPay c 0 ∗ barPay c 1 ∗ barPay c 2) -∗ wp frame (wpE (defs₀ (F := F)) 𝒱₀ (c : Thread nD τ) none) Set.univ (k ⟨⟩) Φ)
        -∗ wp frame (wpE (defs₀ (F := F)) 𝒱₀ (c : Thread nD τ) none) Set.univ (.op (.semWait sm w) k) Φ) := by
  subst hsm; subst hw
  unfold ow
  iintro ⟨#HR, #Hlev, Hc, ⟨%W, HO⟩, Hat⟩ Hk
  iapply (Rounds.wp_wait_rest_token 𝒱₀ ER (ringRd m ρ) (c : Thread nD τ) none (κ := K (c, none))
      (wpE_semWait_eq 𝒱₀ (c : Thread nD τ) none Set.univ) (Set.mem_univ _) () (O := owe c order) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iapply (inv_at m ρ K (c, none)); iexact HR
    iexact Hat
  iapply Hk
  isplitl [HO]; · iexists _; iexact HO
  isplitl [Hz]; · iexact Hz
  iexact Hp

/-- The tokens of the duties transfer `s` pays: its source's and its target's. -/
def xtok (s : Fin 6) : sProp 𝕄 :=
  iprop(dutyTok ER (sendCell c s) 0 0 ∗ dutyTok ER (recvCell (peer c (di s)) s) 0 0)

/-- The start of transfer `s`: a share of slot 0 and the peer's slot go in. -/
theorem step_send {α : Type} {Φ : α → sProp 𝕄} {k : PUnit → Prog (TpuEff nD τ sig (Elt F) Λ₀ .tc) α} (s : Fin 6) (i : Fin 3) (b : Fin 2) (hi : di s = i) (hb : bi s = b) (l : List (Fin 6)) {n : Dev nD} (hn : n = peer c i)
    {M M' : Memref sig .tc .vmem S2x2x64x512 .bf16} (hM : M = slotM 0 b) (hM' : M' = slotM (slot i) b)
    {sS rS : DmaSem sig} (hsS : sS = sendS s) (hrS : rS = recvS s)
    {hsc : M'.view.ref.isScScratch = false} {hsrc : M.view.WordExact} {hdst : M'.view.WordExact}
    {hsem : DmaTarget.Typed .vmem (.dma rS) (.remote (Dev.tc n : Thread nD τ) M' (.dma sS) hsc)} :
    iprop(records m ρ K ∗ pts c 0 b (sh i) (full m ρ c) ∗ (∃ f, pts (peer c i) (slot i) b fullShare f)
        ∗ ow c (owe c (s :: l)) ∗ xtok c s)
      ⊢ iprop(((cred (tallyAt (sendCell c s) () N) ∗ ow c (owe c l)) -∗ wp frame (wpE (defs₀ (F := F)) 𝒱₀ (c : Thread nD τ) none) Set.univ (k ⟨⟩) Φ)
        -∗ wp frame (wpE (defs₀ (F := F)) 𝒱₀ (c : Thread nD τ) none) Set.univ (.op (.enqueueDma M (.remote (Dev.tc n : Thread nD τ) M' (.dma sS) hsc) (.dma rS) hsrc hdst hsem) k) Φ) := by
  subst hi; subst hb
  subst hn; subst hM; subst hM'; subst hsS; subst hrS
  unfold ow xtok
  iintro ⟨#HR, Hs, ⟨%f, Hd⟩, ⟨%W, HO⟩, HtS, HtR⟩ Hk
  unfold pts
  iapply (Rounds.wp_send_pointsTo 𝒱₀ ER (ringRd m ρ) (c : Thread nD τ) none (c' := (peer c (di s) : Thread nD τ)) (κ₁ := K (c, some (sI s))) (κ₂ := K (peer c (di s), some (rI s)))
      (src := slotM 0 (bi s)) (dst := slotM (slot (di s)) (bi s)) (sS := .dma (sendS s)) (sem := .dma (recvS s))
      (r₁ := 0) (r₂ := 0) (d₁ := 0) (d₂ := 0) (fd := f) (fs := full m ρ c) (q := sh (di s))
      (by rw [duties_dma]; exact Finset.mem_singleton_self _) (by rw [duties_dma]; exact Finset.mem_singleton_self _)
      () () N rfl (amount_dma m ρ c _ 0) (amount_dma m ρ (peer c (di s)) _ 0) (owe c l) rfl (W := W)
      (by rw [payload_send]; exact BI.Entails.refl _)
      (by rw [payload_recv]; exact Entails.of_eq (pointsTo_congr (landed_eq m ρ c (di s) (bi s) f)))) $$ [Hs Hd HO HtS HtR]
  · isplitr; · iapply (inv_at m ρ K (c, some (sI s))); iexact HR
    isplitr; · iapply (inv_at m ρ K (peer c (di s), some (rI s))); iexact HR
    isplitl [Hs]; · iexact Hs
    isplitl [Hd]; · iexact Hd
    isplitl [HO]; · iexact HO
    isplitl [HtS]; · iexact HtS
    isplitr; · iapply (reached_at m ρ K (c, some (sI s))); iexact HR
    isplitl [HtR]; · iexact HtR
    iapply (reached_at m ρ K (peer c (di s), some (rI s))); iexact HR
  iintro ⟨Hc, HO⟩
  iapply Hk
  isplitl [Hc]; · iexact Hc
  iexists W; iexact HO

/-- The wait on one of a device's own twelve transfer cells: what the landing paid comes with it, and the cell closes. -/
theorem step_dma {α : Type} {Φ : α → sProp 𝕄} {k : PUnit → Prog (TpuEff nD τ sig (Elt F) Λ₀ .tc) α} (kk : Fin 12) {q : DmaSem sig} (hq : q = dS kk) {sp sp' : CoreSpace} {s' s'' : Shape} {e' e'' : EltTy}
    {M : Memref sig .tc sp s' e'} {M' : Memref sig .tc sp' s'' e''} (hN : M'.view.dmaCredit = N)
    {h₁ : M.view.WordExact} {h₂ : M'.view.WordExact} :
    iprop(records m ρ K ∗ cred (tallyAt ((c : Thread nD τ), .dma (dS kk)) () N) ∗ ow c 0 ∗ atPos ER ((c : Thread nD τ), .dma (dS kk)) 0 ∅ 0)
      ⊢ iprop(((ow c 0 ∗ semVal ((c : Thread nD τ), .dma (dS kk)) 0
            ∗ bigSep ((ringRd (F := F) m ρ).duties ((c : Thread nD τ), .dma (dS kk)) 0 \ ∅) (fun d => (ringRd (F := F) m ρ).payload ((c : Thread nD τ), .dma (dS kk)) 0 d)) -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 q M M' h₁ h₂) k) Φ) := by
  subst hq
  unfold ow
  iintro ⟨#HR, Hc, ⟨%W, HO⟩, Hat⟩ Hk
  iapply (Rounds.wp_wait_rest_token 𝒱₀ ER (ringRd m ρ) (c : Thread nD τ) none (κ := K (c, some kk))
      (wpE_waitDma2_eq 𝒱₀ (c : Thread nD τ) none Set.univ) (Set.mem_univ _) () (O := 0) (W := W) (R := 0) (m := 0) (T := ∅)
      (by rw [Nat.zero_add, expect_dma, hN])) $$ [Hc HO Hat]
  · isplitr; · iapply (inv_at m ρ K (c, some kk)); iexact HR
    isplitl [Hc]; · rw [hN]; iexact Hc
    isplitl [HO]; · iexact HO
    isplitr; · rw [MayWait_zero]; iempintro
    iexact Hat
  iintro ⟨HO, Hat, -, Hpay⟩
  imod (Rounds.cell_close ER (ringRd m ρ) (Set.mem_univ (K (c, some kk))) (fun h => h) (R := 0 + 1) (duties_later m ρ (kcell (c, some kk)))) $$ [Hat] with Hz
  · isplitr; · iapply (inv_at m ρ K (c, some kk)); iexact HR
    iexact Hat
  iapply Hk
  isplitl [HO]; · iexists _; iexact HO
  isplitl [Hz]; · iexact Hz
  iexact Hpay

/-- The wait for transfer `s` to land here. -/
theorem step_recv {α : Type} {Φ : α → sProp 𝕄} {k : PUnit → Prog (TpuEff nD τ sig (Elt F) Λ₀ .tc) α} (s : Fin 6) (d : Fin 4) (b : Fin 2) (hd : slot (di s) = d) (hb : bi s = b) {q : DmaSem sig} (hq : q = recvS s) {sp sp' : CoreSpace} {s' s'' : Shape} {e' e'' : EltTy}
    {M : Memref sig .tc sp s' e'} {M' : Memref sig .tc sp' s'' e''} (hN : M'.view.dmaCredit = N)
    {h₁ : M.view.WordExact} {h₂ : M'.view.WordExact} :
    iprop(records m ρ K ∗ cred (tallyAt (recvCell c s) () N) ∗ ow c 0 ∗ atPos ER (recvCell c s) 0 ∅ 0)
      ⊢ iprop(((ow c 0 ∗ semVal (recvCell c s) 0 ∗ pts c d b fullShare (full m ρ c)) -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 q M M' h₁ h₂) k) Φ) := by
  subst hd; subst hb
  have h := step_dma m ρ K c (rI s) hq (M := M) (M' := M') hN (h₁ := h₁) (h₂ := h₂) (Φ := Φ) (k := k)
  rw [rest_recv] at h
  exact h

/-- The wait for the copy `s` this device started: its share of slot 0 comes back. -/
theorem step_sent {α : Type} {Φ : α → sProp 𝕄} {k : PUnit → Prog (TpuEff nD τ sig (Elt F) Λ₀ .tc) α} (s : Fin 6) (i : Fin 3) (b : Fin 2) (hi : di s = i) (hb : bi s = b) {q : DmaSem sig} (hq : q = sendS s) {sp sp' : CoreSpace} {s' s'' : Shape} {e' e'' : EltTy}
    {M : Memref sig .tc sp s' e'} {M' : Memref sig .tc sp' s'' e''} (hN : M'.view.dmaCredit = N)
    {h₁ : M.view.WordExact} {h₂ : M'.view.WordExact} :
    iprop(records m ρ K ∗ cred (tallyAt (sendCell c s) () N) ∗ ow c 0 ∗ atPos ER (sendCell c s) 0 ∅ 0)
      ⊢ iprop(((ow c 0 ∗ semVal (sendCell c s) 0 ∗ pts c 0 b (sh i) (full m ρ c)) -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 q M M' h₁ h₂) k) Φ) := by
  subst hi; subst hb
  have h := step_dma m ρ K c (sI s) hq (M := M) (M' := M') hN (h₁ := h₁) (h₂ := h₂) (Φ := Φ) (k := k)
  rw [rest_send] at h
  exact h

/-- A load of one slab of a landed slot. -/
theorem step_load {α : Type} {Φ : α → sProp 𝕄} (d : Fin 4) (b kv kh : Fin 2) (q : PosShare TreeShare) {r : LoadRect S4x2x2x2x64x512} (hr : r = (slabR d b kv kh).toLoadRect)
    {hl : (scM : Memref sig .tc .vmem S4x2x2x2x64x512 .bf16).view.LoadsAt r}
    {k : (r.shape.Idx → Elt F .bf16) → Prog (TpuEff nD τ sig (Elt F) Λ₀ .tc) α} {k' : Vec F S1x1x1x1x64x512 .bf16 → Prog (TpuEff nD τ sig (Elt F) Λ₀ .tc) α}
    (hk : HEq k k') :
    iprop(pts c d b q (full m ρ c))
      ⊢ iprop((pts c d b q (full m ρ c) -∗ wp frame (wpE (defs₀ (F := F)) 𝒱₀ (c : Thread nD τ) none) Set.univ (k' (slab m ρ (src c d) b kv kh)) Φ) -∗ wp frame (wpE (defs₀ (F := F)) 𝒱₀ (c : Thread nD τ) none) Set.univ (.op (.load scM r hl) k) Φ) := by
  subst hr
  obtain rfl := eq_of_heq hk
  rw [← read_full]
  unfold pts
  exact wp_load 𝒱₀ (c : Thread nD τ) none Set.univ (m := scM) (by
    rw [slot_set]; intro i hi
    obtain ⟨x, hx, rfl⟩ := Finset.mem_map.mp hi
    exact slab_subset d b kv kh hx)

/-- Slot 0, batch `b`, while it is being written: the slabs of `S` hold what they will. -/
def part (b : Fin 2) (S : Finset (Fin 2 × Fin 2)) : sProp 𝕄 :=
  iprop(∃ f, ⌜∀ kk ∈ S, ∀ i ∈ (slabR 0 b kk.1 kk.2).set, f i = full m ρ c i⌝ ∗ pts c 0 b fullShare f)

theorem part_start (b : Fin 2) (f : Buf (Elt F) ((c : Thread nD τ).loc cc0_scratch0)) : (pts c 0 b fullShare f : sProp 𝕄) ⊢ part m ρ c b ∅ := by
  unfold part
  iintro H; iexists f
  isplitr
  · ipureintro; exact fun kk h => absurd h (Finset.notMem_empty kk)
  · iexact H

theorem part_done (b : Fin 2) : (part m ρ c b Finset.univ : sProp 𝕄) ⊢ pts c 0 b fullShare (full m ρ c) := by
  unfold part
  iintro ⟨%f, %h, H⟩
  have e : (pts c 0 b fullShare f : sProp 𝕄) = pts c 0 b fullShare (full m ρ c) := pts_congr c 0 b fullShare fun i hi => by
    have hs := mem_slot.mp hi
    exact h (i 2, i 3) (Finset.mem_univ _) i (mem_slab.mpr ⟨hs.1, hs.2, rfl, rfl⟩)
  rw [← e]; iexact H

/-- The dead load before a store. -/
theorem step_peek {α : Type} {Φ : α → sProp 𝕄} (b kv kh : Fin 2) (S : Finset (Fin 2 × Fin 2)) {r : LoadRect S4x2x2x2x64x512} (hr : r = (slabR 0 b kv kh).toLoadRect)
    {hl : (scM : Memref sig .tc .vmem S4x2x2x2x64x512 .bf16).view.LoadsAt r}
    {k : (r.shape.Idx → Elt F .bf16) → Prog (TpuEff nD τ sig (Elt F) Λ₀ .tc) α} :
    iprop(part m ρ c b S)
      ⊢ iprop((∀ w, part m ρ c b S -∗ wp frame (wpE (defs₀ (F := F)) 𝒱₀ (c : Thread nD τ) none) Set.univ (k w) Φ) -∗ wp frame (wpE (defs₀ (F := F)) 𝒱₀ (c : Thread nD τ) none) Set.univ (.op (.load scM r hl) k) Φ) := by
  subst hr
  unfold part
  iintro ⟨%f, %h, H⟩ Hk
  unfold pts
  iapply (wp_load 𝒱₀ (c : Thread nD τ) none Set.univ (m := scM) (by
    rw [slot_set]; intro i hi
    obtain ⟨x, hx, rfl⟩ := Finset.mem_map.mp hi
    exact slab_subset 0 b kv kh hx)) $$ H
  iintro H
  iapply Hk
  iexists f
  isplitr; · ipureintro; exact h
  iexact H

/-- The store of one slab of slot 0. -/
theorem step_store {α : Type} {Φ : α → sProp 𝕄} {k : PUnit → Prog (TpuEff nD τ sig (Elt F) Λ₀ .tc) α} (b kv kh : Fin 2) (S : Finset (Fin 2 × Fin 2)) {r : Rect S4x2x2x2x64x512} (hr : r = slabR 0 b kv kh)
    {w : r.shape.Idx → Elt F .bf16} (hw : HEq w (slab m ρ c b kv kh)) {hx : ((scM : Memref sig .tc .vmem S4x2x2x2x64x512 .bf16).access r).Stores Finset.univ}
    {hm : (Finset.univ : Finset r.shape.Idx) = Finset.univ ∨ ∀ a, r.stride a = 1} :
    iprop(part m ρ c b S)
      ⊢ iprop((part m ρ c b (insert (kv, kh) S) -∗ wp frame (wpE (defs₀ (F := F)) 𝒱₀ (c : Thread nD τ) none) Set.univ (k ⟨⟩) Φ) -∗ wp frame (wpE (defs₀ (F := F)) 𝒱₀ (c : Thread nD τ) none) Set.univ (.op (.store scM r w Finset.univ hx hm) k) Φ) := by
  subst hr
  obtain rfl := eq_of_heq hw
  unfold part
  iintro ⟨%f, %h, H⟩ Hk
  unfold pts
  iapply (wp_store 𝒱₀ (c : Thread nD τ) none Set.univ (m := scM) (r := slabR 0 b kv kh) (Mk := Finset.univ) (by
    rw [slot_set]; intro i hi
    obtain ⟨x, hx, rfl⟩ := Finset.mem_map.mp hi
    exact slab_subset 0 b kv kh (emb_in 0 b kv kh x))) $$ H
  iintro H
  iapply Hk
  iexists _
  isplitr; rotate_left
  · iexact H
  ipureintro
  intro kk hkk i hi
  by_cases hin : i ∈ (slabR 0 b kv kh).set
  · rw [← Rect.map_emb_univ] at hin
    obtain ⟨x, -, rfl⟩ := Finset.mem_map.mp hin
    rw [full_emb, src_zero]
    exact View.write_emb_of_mem (v := (scM : Memref sig .tc .vmem S4x2x2x2x64x512 .bf16).access (slabR 0 b kv kh)) (Val := Elt F) f (slab m ρ c b kv kh) (Finset.mem_univ x)
  · rw [View.write_of_not_mem (v := (scM : Memref sig .tc .vmem S4x2x2x2x64x512 .bf16).access (slabR 0 b kv kh)) (Val := Elt F) f (slab m ρ c b kv kh) Finset.univ (by
      intro hc; apply hin
      obtain ⟨x, -, rfl⟩ := Finset.mem_map.mp hc
      exact emb_in 0 b kv kh x)]
    rcases Finset.mem_insert.mp hkk with rfl | hkk
    · exact absurd hi hin
    · exact h kk hkk i hi

end Steps

end Cert.KernelIdealProof

end
-- ==== Proof.KernelIdeal.Values.lean ====
/-
# What the body computes: every value it hands from one stretch of its operations to the next, by name

`valN` is the printed program's value `%N` on device `c`, as the printed payload of the values it is made of; `out0` and
`out1` are what the body stores for the two batches, `outAt` the output block they make.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev xR (b : Fin 2) : Rect S2x256x768 :=
  Rect.unit (s := S2x256x768) ![b.val, 0, 0] S1x256x768.size (fun a => by
    have hb := b.isLt
    fin_cases a
    · exact hb
    · exact Nat.le_refl _
    · exact Nat.le_refl _)
abbrev wqR : Rect S768x512 := Rect.unit (s := S768x512) ![0, 0] S768x512.size inb_S768x512_S768x512_0_0
abbrev woR : Rect S512x768 := Rect.unit (s := S512x768) ![0, 0] S512x768.size inb_S512x768_S512x768_0_0

/-- What a load of batch `b` of the activations reads, and of the two weights. -/
def xread (c : Dev nD) (b : Fin 2) : Vec F S1x256x768 .bf16 := xM.view.readAt (Elt F) (xR b).toLoadRect (xstg m ρ c)
def wqread (c : Dev nD) : Vec F S768x512 .bf16 := wqM.view.readAt (Elt F) wqR.toLoadRect (wqstg m ρ c)
def woread (c : Dev nD) : Vec F S512x768 .bf16 := woM.view.readAt (Elt F) woR.toLoadRect (wostg m ρ c)

def val84 (c : Dev nD) : FVec F S64x512 .bf16 := (k0_pay7 (kvread m ρ c 1 0 1))
def val125 (c : Dev nD) : FVec F S768x512 .bf16 := k0_pay10 (wqread m ρ c)
def val127 (c : Dev nD) : FVec F S256x768 .bf16 := k0_pay11 (xread m ρ c 0)
def val136 (c : Dev nD) : FVec F S1024x64 .bf16 := k0_pay13 (val125 m ρ c) (val127 m ρ c) (constant S256x512 .f32 0x00000000#32)
def val138 (c : Dev nD) : FVec F S1024x64 .bf16 := k0_pay14 (val125 m ρ c) (val127 m ρ c) (constant S256x512 .f32 0x00000000#32)
def val149 (c : Dev nD) : FVec F S1024x64 .bf16 := k0_pay16 (val125 m ρ c) (xread m ρ c 1)
def val151 (c : Dev nD) : FVec F S1024x64 .bf16 := k0_pay17 (val125 m ρ c) (xread m ρ c 1)
def val159 (c : Dev nD) : FVec F S512x768 .bf16 := k0_pay24 (woread m ρ c)
def val161 (c : Dev nD) : FVec F S64x512 .bf16 := k0_pay25 (slab m ρ (src c 0) 0 0 0)
def val167 (c : Dev nD) : FVec F S1024x1 .f32 := k0_pay27 (val136 m ρ c) (k0_pay18 (F := F)) (val161 m ρ c)
def val178 (c : Dev nD) : FVec F S1024x1 .f32 := k0_pay30 (val136 m ρ c) (k0_pay18 (F := F)) (k0_pay20 (F := F)) (val161 m ρ c)
def val182 (c : Dev nD) : FVec F S1024x64 .f32 := k0_pay31 (val136 m ρ c) (k0_pay18 (F := F)) (k0_pay22 (F := F)) (val161 m ρ c) (slab m ρ (src c 0) 0 1 0)
def val186 (c : Dev nD) : FVec F S64x512 .bf16 := k0_pay32 (slab m ρ (src c 0) 0 1 1)
def val190 (c : Dev nD) : FVec F S1024x1 .f32 := k0_pay34 (val138 m ρ c) (k0_pay18 (F := F)) (slab m ρ (src c 0) 0 0 1)
def val196 (c : Dev nD) : FVec F S1024x512 .bf16 := k0_pay36 (val138 m ρ c) (k0_pay18 (F := F)) (slab m ρ (src c 0) 0 0 1)
def val201 (c : Dev nD) : FVec F S1024x1 .f32 := k0_pay37 (val138 m ρ c) (k0_pay18 (F := F)) (k0_pay20 (F := F)) (slab m ρ (src c 0) 0 0 1)
def val202 (c : Dev nD) : FVec F S1024x64 .f32 := k0_pay38 (val138 m ρ c) (k0_pay18 (F := F)) (slab m ρ (src c 0) 0 0 1)
def val205 (c : Dev nD) : FVec F S1024x64 .f32 := k0_pay39 (k0_pay22 (F := F)) (val186 m ρ c) (val196 m ρ c) (val202 m ρ c)
def val213 (c : Dev nD) : FVec F S1024x1 .f32 := k0_pay41 (val149 m ρ c) (k0_pay19 (F := F)) (slab m ρ (src c 0) 1 0 0)
def val224 (c : Dev nD) : FVec F S1024x1 .f32 := k0_pay44 (val149 m ρ c) (k0_pay19 (F := F)) (k0_pay21 (F := F)) (slab m ρ (src c 0) 1 0 0)
def val228 (c : Dev nD) : FVec F S1024x64 .f32 := k0_pay45 (val149 m ρ c) (k0_pay19 (F := F)) (k0_pay23 (F := F)) (slab m ρ (src c 0) 1 0 0) (slab m ρ (src c 0) 1 1 0)
def val230 (c : Dev nD) : FVec F S64x512 .bf16 := k0_pay46 (slab m ρ (src c 0) 1 0 1)
def val232 (c : Dev nD) : FVec F S64x512 .bf16 := k0_pay47 (slab m ρ (src c 0) 1 1 1)
def val236 (c : Dev nD) : FVec F S1024x1 .f32 := k0_pay49 (val151 m ρ c) (k0_pay19 (F := F)) (val230 m ρ c) (constant S1024x512 .f32 0x00000000#32)
def val247 (c : Dev nD) : FVec F S1024x1 .f32 := k0_pay52 (val151 m ρ c) (k0_pay19 (F := F)) (k0_pay21 (F := F)) (val230 m ρ c) (constant S1024x512 .f32 0x00000000#32)
def val251 (c : Dev nD) : FVec F S1024x64 .f32 := k0_pay53 (val151 m ρ c) (k0_pay19 (F := F)) (k0_pay23 (F := F)) (val230 m ρ c) (val232 m ρ c) (constant S1024x512 .f32 0x00000000#32)
def val261 (c : Dev nD) : FVec F S64x512 .bf16 := k0_pay54 (slab m ρ (src c 1) 0 0 0)
def val267 (c : Dev nD) : FVec F S1024x1 .f32 := k0_pay56 (val136 m ρ c) (val167 m ρ c) (val261 m ρ c)
def val278 (c : Dev nD) : FVec F S1024x1 .f32 := k0_pay59 (val136 m ρ c) (val167 m ρ c) (val178 m ρ c) (val261 m ρ c)
def val282 (c : Dev nD) : FVec F S1024x64 .f32 := k0_pay60 (val136 m ρ c) (val167 m ρ c) (val182 m ρ c) (val261 m ρ c) (slab m ρ (src c 1) 0 1 0)
def val286 (c : Dev nD) : FVec F S64x512 .bf16 := k0_pay61 (slab m ρ (src c 1) 0 1 1)
def val290 (c : Dev nD) : FVec F S1024x1 .f32 := k0_pay63 (val138 m ρ c) (val190 m ρ c) (slab m ρ (src c 1) 0 0 1)
def val292 (c : Dev nD) : FVec F S1024x1 .f32 := k0_pay64 (val138 m ρ c) (val190 m ρ c) (slab m ρ (src c 1) 0 0 1)
def val296 (c : Dev nD) : FVec F S1024x512 .bf16 := k0_pay65 (val138 m ρ c) (val190 m ρ c) (slab m ρ (src c 1) 0 0 1)
def val297 (c : Dev nD) : FVec F S1024x1 .f32 := k0_pay66 (val138 m ρ c) (val190 m ρ c) (val201 m ρ c) (slab m ρ (src c 1) 0 0 1)
def val299 (c : Dev nD) : FVec F S1024 .f32 := k0_pay67 (val138 m ρ c) (val190 m ρ c) (slab m ρ (src c 1) 0 0 1)
def val301 (c : Dev nD) : FVec F S1024x1 .f32 := k0_pay68 (val297 m ρ c) (val299 m ρ c)
def val305 (c : Dev nD) : FVec F S1024x64 .f32 := k0_pay69 (val205 m ρ c) (val286 m ρ c) (val292 m ρ c) (val296 m ρ c)
def val317 (c : Dev nD) : FVec F S64x512 .bf16 := k0_pay70 (slab m ρ (src c 1) 1 1 0)
def val321 (c : Dev nD) : FVec F S1024x1 .f32 := k0_pay72 (val149 m ρ c) (val213 m ρ c) (slab m ρ (src c 1) 1 0 0)
def val323 (c : Dev nD) : FVec F S1024x1 .f32 := k0_pay73 (val149 m ρ c) (val213 m ρ c) (slab m ρ (src c 1) 1 0 0)
def val325 (c : Dev nD) : FVec F S1024x512 .f32 := k0_pay74 (val149 m ρ c) (val213 m ρ c) (slab m ρ (src c 1) 1 0 0)
def val332 (c : Dev nD) : FVec F S1024x1 .f32 := k0_pay76 (val224 m ρ c) (val323 m ρ c) (val325 m ρ c)
def val336 (c : Dev nD) : FVec F S1024x64 .f32 := k0_pay77 (val228 m ρ c) (val317 m ρ c) (val323 m ρ c) (val325 m ρ c)
def val344 (c : Dev nD) : FVec F S1024x1 .f32 := k0_pay79 (val151 m ρ c) (val236 m ρ c) (slab m ρ (src c 1) 1 0 1)
def val355 (c : Dev nD) : FVec F S1024x1 .f32 := k0_pay82 (val151 m ρ c) (val236 m ρ c) (val247 m ρ c) (slab m ρ (src c 1) 1 0 1)
def val359 (c : Dev nD) : FVec F S1024x64 .f32 := k0_pay83 (val151 m ρ c) (val236 m ρ c) (val251 m ρ c) (slab m ρ (src c 1) 1 0 1) (slab m ρ (src c 1) 1 1 1)
def val375 (c : Dev nD) : FVec F S1024x1 .f32 := k0_pay85 (val136 m ρ c) (val267 m ρ c) (slab m ρ (src c 3) 0 0 0)
def val386 (c : Dev nD) : FVec F S1024x1 .f32 := k0_pay88 (val136 m ρ c) (val267 m ρ c) (val278 m ρ c) (slab m ρ (src c 3) 0 0 0)
def val390 (c : Dev nD) : FVec F S1024x64 .f32 := k0_pay89 (val136 m ρ c) (val267 m ρ c) (val282 m ρ c) (slab m ρ (src c 3) 0 0 0) (slab m ρ (src c 3) 0 1 0)
def val398 (c : Dev nD) : FVec F S1024x1 .f32 := k0_pay91 (val138 m ρ c) (val290 m ρ c) (slab m ρ (src c 3) 0 0 1)
def val409 (c : Dev nD) : FVec F S1024x1 .f32 := k0_pay94 (val138 m ρ c) (val290 m ρ c) (val301 m ρ c) (slab m ρ (src c 3) 0 0 1)
def val413 (c : Dev nD) : FVec F S1024x64 .f32 := k0_pay95 (val138 m ρ c) (val290 m ρ c) (val305 m ρ c) (slab m ρ (src c 3) 0 0 1) (slab m ρ (src c 3) 0 1 1)
def val429 (c : Dev nD) : FVec F S1024x1 .f32 := k0_pay97 (val149 m ρ c) (val321 m ρ c) (slab m ρ (src c 3) 1 0 0)
def val440 (c : Dev nD) : FVec F S1024x1 .f32 := k0_pay100 (val149 m ρ c) (val321 m ρ c) (val332 m ρ c) (slab m ρ (src c 3) 1 0 0)
def val444 (c : Dev nD) : FVec F S1024x64 .f32 := k0_pay101 (val149 m ρ c) (val321 m ρ c) (val336 m ρ c) (slab m ρ (src c 3) 1 0 0) (slab m ρ (src c 3) 1 1 0)
def val446 (c : Dev nD) : FVec F S64x512 .bf16 := k0_pay102 (slab m ρ (src c 3) 1 0 1)
def val448 (c : Dev nD) : FVec F S64x512 .bf16 := k0_pay103 (slab m ρ (src c 3) 1 1 1)
def val452 (c : Dev nD) : FVec F S1024x1 .f32 := k0_pay105 (val151 m ρ c) (val344 m ρ c) (val446 m ρ c) (constant S1024x512 .f32 0x00000000#32)
def val463 (c : Dev nD) : FVec F S1024x1 .f32 := k0_pay108 (val151 m ρ c) (val344 m ρ c) (val355 m ρ c) (val446 m ρ c) (constant S1024x512 .f32 0x00000000#32)
def val467 (c : Dev nD) : FVec F S1024x64 .f32 := k0_pay109 (val151 m ρ c) (val344 m ρ c) (val359 m ρ c) (val446 m ρ c) (val448 m ρ c) (constant S1024x512 .f32 0x00000000#32)
def val477 (c : Dev nD) : FVec F S64x512 .bf16 := k0_pay110 (slab m ρ (src c 2) 0 0 0)
def val494 (c : Dev nD) : FVec F S1024x1 .f32 := k0_pay115 (val136 m ρ c) (val375 m ρ c) (val386 m ρ c) (val477 m ρ c)
def val498 (c : Dev nD) : FVec F S1024x64 .f32 := k0_pay116 (val136 m ρ c) (val375 m ρ c) (val390 m ρ c) (val477 m ρ c) (slab m ρ (src c 2) 0 1 0)
def val502 (c : Dev nD) : FVec F S64x512 .bf16 := k0_pay117 (slab m ρ (src c 2) 0 1 1)
def val508 (c : Dev nD) : FVec F S1024x1 .f32 := k0_pay120 (val138 m ρ c) (val398 m ρ c) (slab m ρ (src c 2) 0 0 1)
def val512 (c : Dev nD) : FVec F S1024x512 .bf16 := k0_pay121 (val138 m ρ c) (val398 m ρ c) (slab m ρ (src c 2) 0 0 1)
def val513 (c : Dev nD) : FVec F S1024x1 .f32 := k0_pay122 (val138 m ρ c) (val398 m ρ c) (val409 m ρ c) (slab m ρ (src c 2) 0 0 1)
def val515 (c : Dev nD) : FVec F S1024 .f32 := k0_pay123 (val138 m ρ c) (val398 m ρ c) (slab m ρ (src c 2) 0 0 1)
def out0 (c : Dev nD) : FVec F S1x256x768 .f32 := k0_pay124 (val159 m ρ c) (val413 m ρ c) (val494 m ρ c) (val498 m ρ c) (val502 m ρ c) (val508 m ρ c) (val512 m ρ c) (val513 m ρ c) (val515 m ρ c)
def val565 (c : Dev nD) : FVec F S1024x1 .f32 := k0_pay129 (val149 m ρ c) (val429 m ρ c) (val440 m ρ c) (slab m ρ (src c 2) 1 0 0)
def val569 (c : Dev nD) : FVec F S1024x64 .f32 := k0_pay130 (val149 m ρ c) (val429 m ρ c) (val444 m ρ c) (slab m ρ (src c 2) 1 0 0) (slab m ρ (src c 2) 1 1 0)
def val573 (c : Dev nD) : FVec F S64x512 .bf16 := k0_pay131 (slab m ρ (src c 2) 1 1 1)
def val574 (c : Dev nD) : FVec F S1024x512 .f32 := k0_pay132 (val151 m ρ c) (slab m ρ (src c 2) 1 0 1)
def val579 (c : Dev nD) : FVec F S1024x1 .f32 := k0_pay134 (val151 m ρ c) (val452 m ρ c) (slab m ρ (src c 2) 1 0 1)
def val580 (c : Dev nD) : FVec F S1024x512 .f32 := k0_pay135 (val151 m ρ c) (val452 m ρ c) (slab m ρ (src c 2) 1 0 1)
def out1 (c : Dev nD) : FVec F S1x256x768 .f32 := k0_pay136 (val159 m ρ c) (val463 m ρ c) (val467 m ρ c) (val565 m ρ c) (val569 m ρ c) (val573 m ρ c) (val574 m ρ c) (val579 m ρ c) (val580 m ρ c)

/-- The output block: batch 0 and batch 1, over whatever stood there. -/
def outAt (c : Dev nD) (f : (cc0_stg5_0 : Ref sig .tc).ty.Contents (Elt F)) : (cc0_stg5_0 : Ref sig .tc).ty.Contents (Elt F) :=
  ((oM : Memref sig .tc .vmem S2x256x768 .f32).access (xR 1)).write (Elt F)
    (((oM : Memref sig .tc .vmem S2x256x768 .f32).access (xR 0)).write (Elt F) f (out0 m ρ c) Finset.univ) (out1 m ρ c) Finset.univ

end Cert.KernelIdealProof
-- ==== Proof.KernelIdeal.Parts.lean ====
/-
# The body's stretches of attention, each run once on a symbolic device

Each theorem runs one printed stretch: what it needs, what it gives back, and the values it returns, by the names of
Proof/KernelIdeal/Values.lean.
-/
module

public import proofs.«01_k».proof.Proof.KernelIdeal.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A load from a staging buffer. -/
theorem step_stage (c : Dev nD) {s : Shape} {e : EltTy} (M : Memref sig .tc .vmem s e) (r' : Rect s) (X : Buf (Elt F) (M.view.loc (c : Thread nD τ)))
    {α : Type} {Φ : α → sProp 𝕄} {r : LoadRect s} (hr : r = r'.toLoadRect) {hl : M.view.LoadsAt r}
    {k : (r.shape.Idx → Elt F e) → Prog (TpuEff nD τ sig (Elt F) Λ₀ .tc) α} {k' : (r'.shape.Idx → Elt F e) → Prog (TpuEff nD τ sig (Elt F) Λ₀ .tc) α} (hk : HEq k k') :
    (M.view.loc (c : Thread nD τ) ↦{fullShare} X : sProp 𝕄)
      ⊢ iprop(((M.view.loc (c : Thread nD τ) ↦{fullShare} X) -∗ wp frame (wpE (defs₀ (F := F)) 𝒱₀ (c : Thread nD τ) none) Set.univ (k' (M.view.readAt (Elt F) r'.toLoadRect X)) Φ)
        -∗ wp frame (wpE (defs₀ (F := F)) 𝒱₀ (c : Thread nD τ) none) Set.univ (.op (.load M r hl) k) Φ) := by
  subst hr
  obtain rfl := eq_of_heq hk
  exact wp_load 𝒱₀ (c : Thread nD τ) none Set.univ (m := M) (Finset.subset_univ _)

/-- A device's staging buffer `b`, holding `X`. -/
abbrev hold (c : Dev nD) (b : Ref sig .tc) (X : b.ty.Contents (Elt F)) : sProp 𝕄 := (((c : Thread nD τ).loc b) ↦{fullShare} X)

section Parts

variable (K : Dev nD × Option (Fin 12) → ℕ) (c : Dev nD)

theorem part7_runs {Φ : (Σ' (v136 : FVec F S1024x64 .bf16) (v138 : FVec F S1024x64 .bf16) (v149 : FVec F S1024x64 .bf16) (v151 : FVec F S1024x64 .bf16) (v152 : FVec F S1024x1 .f32) (v153 : FVec F S1024x1 .f32) (v154 : FVec F S1024x1 .f32) (v155 : FVec F S1024x1 .f32) (v156 : FVec F S1024x64 .f32) (v157 : FVec F S1024x64 .f32) (v159 : FVec F S512x768 .bf16), FVec F S64x512 .bf16) → sProp 𝕄} :
    iprop(pts c 0 0 shL (full m ρ c) ∗ hold c cc0_stg0_0 (xstg m ρ c) ∗ hold c cc0_stg2_0 (wostg m ρ c))
      ⊢ iprop(((pts c 0 0 shL (full m ρ c) ∗ hold c cc0_stg0_0 (xstg m ρ c) ∗ hold c cc0_stg2_0 (wostg m ρ c)) -∗ Φ ⟨(val136 m ρ c), (val138 m ρ c), (val149 m ρ c), (val151 m ρ c), (k0_pay18 (F := F)), (k0_pay19 (F := F)), (k0_pay20 (F := F)), (k0_pay21 (F := F)), (k0_pay22 (F := F)), (k0_pay23 (F := F)), (val159 m ρ c), (val161 m ρ c)⟩)
        -∗ wp frame (wpE (defs₀ (F := F)) 𝒱₀ (c : Thread nD τ) none) Set.univ
          (k0_part7 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val125 m ρ c) (val127 m ρ c) (constant S256x512 .f32 0x00000000#32)) Φ) := by
  unfold val136 val138 val149 val151 val159 val161 xread woread
  rw [k0_part7_eq_skeleton]; unfold k0_part7_skel
  simp only [Prog.lift, Prog.bind_op, Prog.bind_ret, Prog.pure_eq_ret]
  iintro ⟨Hs00, Hg0, Hg2⟩ Hk
  iapply (step_stage c xM (xR 1) (xstg m ρ c) rfl HEq.rfl) $$ Hg0; iintro Hg0
  iapply (step_stage c woM woR (wostg m ρ c) rfl HEq.rfl) $$ Hg2; iintro Hg2
  iapply (step_load m ρ c 0 0 0 0 shL rfl HEq.rfl) $$ Hs00; iintro Hs00
  rw [wp_ret]; imodintro
  iapply Hk
  isplitl [Hs00]; · iexact Hs00
  isplitl [Hg0]; · iexact Hg0
  iexact Hg2

theorem part8_runs {Φ : (Σ' (v167 : FVec F S1024x1 .f32) (v178 : FVec F S1024x1 .f32) (v182 : FVec F S1024x64 .f32) (v186 : FVec F S64x512 .bf16) (v190 : FVec F S1024x1 .f32) (v196 : FVec F S1024x512 .bf16) (v201 : FVec F S1024x1 .f32), FVec F S1024x64 .f32) → sProp 𝕄} :
    iprop(pts c 0 0 shL (full m ρ c))
      ⊢ iprop(((pts c 0 0 shL (full m ρ c)) -∗ Φ ⟨(val167 m ρ c), (val178 m ρ c), (val182 m ρ c), (val186 m ρ c), (val190 m ρ c), (val196 m ρ c), (val201 m ρ c), (val202 m ρ c)⟩)
        -∗ wp frame (wpE (defs₀ (F := F)) 𝒱₀ (c : Thread nD τ) none) Set.univ
          (k0_part8 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val136 m ρ c) (val138 m ρ c) (k0_pay18 (F := F)) (k0_pay20 (F := F)) (k0_pay22 (F := F)) (val161 m ρ c)) Φ) := by
  unfold val167 val178 val182 val186 val190 val196 val201 val202
  rw [k0_part8_eq_skeleton]; unfold k0_part8_skel
  simp only [Prog.lift, Prog.bind_op, Prog.bind_ret, Prog.pure_eq_ret]
  iintro Hs00 Hk
  iapply (step_load m ρ c 0 0 1 0 shL rfl HEq.rfl) $$ Hs00; iintro Hs00
  iapply (step_load m ρ c 0 0 0 1 shL rfl HEq.rfl) $$ Hs00; iintro Hs00
  iapply (step_load m ρ c 0 0 1 1 shL rfl HEq.rfl) $$ Hs00; iintro Hs00
  rw [wp_ret]; imodintro
  iapply Hk
  iexact Hs00

theorem part9_runs {Φ : (Σ' (v205 : FVec F S1024x64 .f32) (v213 : FVec F S1024x1 .f32) (v224 : FVec F S1024x1 .f32) (v228 : FVec F S1024x64 .f32) (v230 : FVec F S64x512 .bf16) (v232 : FVec F S64x512 .bf16), FVec F S1024x512 .f32) → sProp 𝕄} :
    iprop(pts c 0 1 shL (full m ρ c))
      ⊢ iprop(((pts c 0 1 shL (full m ρ c)) -∗ Φ ⟨(val205 m ρ c), (val213 m ρ c), (val224 m ρ c), (val228 m ρ c), (val230 m ρ c), (val232 m ρ c), (constant S1024x512 .f32 0x00000000#32)⟩)
        -∗ wp frame (wpE (defs₀ (F := F)) 𝒱₀ (c : Thread nD τ) none) Set.univ
          (k0_part9 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val149 m ρ c) (k0_pay19 (F := F)) (k0_pay21 (F := F)) (k0_pay22 (F := F)) (k0_pay23 (F := F)) (val186 m ρ c) (val196 m ρ c) (val202 m ρ c)) Φ) := by
  unfold val205 val213 val224 val228 val230 val232
  rw [k0_part9_eq_skeleton]; unfold k0_part9_skel
  simp only [Prog.lift, Prog.bind_op, Prog.bind_ret, Prog.pure_eq_ret]
  iintro Hs01 Hk
  iapply (step_load m ρ c 0 1 0 0 shL rfl HEq.rfl) $$ Hs01; iintro Hs01
  iapply (step_load m ρ c 0 1 1 0 shL rfl HEq.rfl) $$ Hs01; iintro Hs01
  iapply (step_load m ρ c 0 1 0 1 shL rfl HEq.rfl) $$ Hs01; iintro Hs01
  iapply (step_load m ρ c 0 1 1 1 shL rfl HEq.rfl) $$ Hs01; iintro Hs01
  rw [wp_ret]; imodintro
  iapply Hk
  iexact Hs01

theorem part10_runs (v4 v6 v8 : BitVec 32) {Φ : (Σ' (v236 : FVec F S1024x1 .f32) (v247 : FVec F S1024x1 .f32) (v251 : FVec F S1024x64 .f32), FVec F S64x512 .bf16) → sProp 𝕄} :
    iprop(records m ρ K ∗ cred (tallyAt (recvCell c 0) () N) ∗ ow c 0 ∗ atPos ER (recvCell c 0) 0 ∅ 0)
      ⊢ iprop(((ow c 0 ∗ semVal (recvCell c 0) 0 ∗ pts c 1 0 fullShare (full m ρ c)) -∗ Φ ⟨(val236 m ρ c), (val247 m ρ c), (val251 m ρ c), (val261 m ρ c)⟩)
        -∗ wp frame (wpE (defs₀ (F := F)) 𝒱₀ (c : Thread nD τ) none) Set.univ
          (k0_part10 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v4 (val151 m ρ c) (k0_pay19 (F := F)) (k0_pay21 (F := F)) (k0_pay23 (F := F)) (val230 m ρ c) (val232 m ρ c) (constant S1024x512 .f32 0x00000000#32)) Φ) := by
  unfold val236 val247 val251 val261
  rw [k0_part10_eq_skeleton]; unfold k0_part10_skel
  simp only [Prog.lift, Prog.bind_op, Prog.bind_ret, Prog.pure_eq_ret]
  iintro ⟨#HR, Hc, HO, Hat⟩ Hk
  iapply (step_recv m ρ K c 0 1 0 rfl rfl rfl (M := slotM 1 0) (M' := slotM 1 0) rfl) $$ [Hc HO Hat]
  · isplitr; · iexact HR
    isplitl [Hc]; · iexact Hc
    isplitl [HO] <;> iassumption
  iintro ⟨HO, Hz, Hs⟩
  iapply (step_load m ρ c 1 0 0 0 fullShare rfl HEq.rfl) $$ Hs; iintro Hs
  rw [wp_ret]; imodintro
  iapply Hk
  isplitl [HO]; · iexact HO
  isplitl [Hz]; · iexact Hz
  iexact Hs

theorem part11_runs {Φ : (Σ' (v267 : FVec F S1024x1 .f32) (v278 : FVec F S1024x1 .f32) (v282 : FVec F S1024x64 .f32) (v286 : FVec F S64x512 .bf16) (v290 : FVec F S1024x1 .f32) (v292 : FVec F S1024x1 .f32) (v296 : FVec F S1024x512 .bf16) (v297 : FVec F S1024x1 .f32), FVec F S1024 .f32) → sProp 𝕄} :
    iprop(pts c 1 0 fullShare (full m ρ c))
      ⊢ iprop(((pts c 1 0 fullShare (full m ρ c)) -∗ Φ ⟨(val267 m ρ c), (val278 m ρ c), (val282 m ρ c), (val286 m ρ c), (val290 m ρ c), (val292 m ρ c), (val296 m ρ c), (val297 m ρ c), (val299 m ρ c)⟩)
        -∗ wp frame (wpE (defs₀ (F := F)) 𝒱₀ (c : Thread nD τ) none) Set.univ
          (k0_part11 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val136 m ρ c) (val138 m ρ c) (val167 m ρ c) (val178 m ρ c) (val182 m ρ c) (val190 m ρ c) (val201 m ρ c) (val261 m ρ c)) Φ) := by
  unfold val267 val278 val282 val286 val290 val292 val296 val297 val299
  rw [k0_part11_eq_skeleton]; unfold k0_part11_skel
  simp only [Prog.lift, Prog.bind_op, Prog.bind_ret, Prog.pure_eq_ret]
  iintro Hs10 Hk
  iapply (step_load m ρ c 1 0 1 0 fullShare rfl HEq.rfl) $$ Hs10; iintro Hs10
  iapply (step_load m ρ c 1 0 0 1 fullShare rfl HEq.rfl) $$ Hs10; iintro Hs10
  iapply (step_load m ρ c 1 0 1 1 fullShare rfl HEq.rfl) $$ Hs10; iintro Hs10
  rw [wp_ret]; imodintro
  iapply Hk
  iexact Hs10

theorem part12_runs (v4 v6 v8 : BitVec 32) {Φ : (Σ' (v301 : FVec F S1024x1 .f32) (v305 : FVec F S1024x64 .f32) (v317 : FVec F S64x512 .bf16) (v321 : FVec F S1024x1 .f32) (v323 : FVec F S1024x1 .f32), FVec F S1024x512 .f32) → sProp 𝕄} :
    iprop(records m ρ K ∗ cred (tallyAt (recvCell c 1) () N) ∗ ow c 0 ∗ atPos ER (recvCell c 1) 0 ∅ 0)
      ⊢ iprop(((ow c 0 ∗ semVal (recvCell c 1) 0 ∗ pts c 1 1 fullShare (full m ρ c)) -∗ Φ ⟨(val301 m ρ c), (val305 m ρ c), (val317 m ρ c), (val321 m ρ c), (val323 m ρ c), (val325 m ρ c)⟩)
        -∗ wp frame (wpE (defs₀ (F := F)) 𝒱₀ (c : Thread nD τ) none) Set.univ
          (k0_part12 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v4 (val149 m ρ c) (val205 m ρ c) (val213 m ρ c) (val286 m ρ c) (val292 m ρ c) (val296 m ρ c) (val297 m ρ c) (val299 m ρ c)) Φ) := by
  unfold val301 val305 val317 val321 val323 val325
  rw [k0_part12_eq_skeleton]; unfold k0_part12_skel
  simp only [Prog.lift, Prog.bind_op, Prog.bind_ret, Prog.pure_eq_ret]
  iintro ⟨#HR, Hc, HO, Hat⟩ Hk
  iapply (step_recv m ρ K c 1 1 1 rfl rfl rfl (M := slotM 1 1) (M' := slotM 1 1) rfl) $$ [Hc HO Hat]
  · isplitr; · iexact HR
    isplitl [Hc]; · iexact Hc
    isplitl [HO] <;> iassumption
  iintro ⟨HO, Hz, Hs⟩
  iapply (step_load m ρ c 1 1 0 0 fullShare rfl HEq.rfl) $$ Hs; iintro Hs
  iapply (step_load m ρ c 1 1 1 0 fullShare rfl HEq.rfl) $$ Hs; iintro Hs
  rw [wp_ret]; imodintro
  iapply Hk
  isplitl [HO]; · iexact HO
  isplitl [Hz]; · iexact Hz
  iexact Hs

theorem part13_runs {Φ : (Σ' (v332 : FVec F S1024x1 .f32) (v336 : FVec F S1024x64 .f32) (v344 : FVec F S1024x1 .f32) (v355 : FVec F S1024x1 .f32), FVec F S1024x64 .f32) → sProp 𝕄} :
    iprop(pts c 1 1 fullShare (full m ρ c))
      ⊢ iprop(((pts c 1 1 fullShare (full m ρ c)) -∗ Φ ⟨(val332 m ρ c), (val336 m ρ c), (val344 m ρ c), (val355 m ρ c), (val359 m ρ c)⟩)
        -∗ wp frame (wpE (defs₀ (F := F)) 𝒱₀ (c : Thread nD τ) none) Set.univ
          (k0_part13 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val151 m ρ c) (val224 m ρ c) (val228 m ρ c) (val236 m ρ c) (val247 m ρ c) (val251 m ρ c) (val317 m ρ c) (val323 m ρ c) (val325 m ρ c)) Φ) := by
  unfold val332 val336 val344 val355 val359
  rw [k0_part13_eq_skeleton]; unfold k0_part13_skel
  simp only [Prog.lift, Prog.bind_op, Prog.bind_ret, Prog.pure_eq_ret]
  iintro Hs11 Hk
  iapply (step_load m ρ c 1 1 0 1 fullShare rfl HEq.rfl) $$ Hs11; iintro Hs11
  iapply (step_load m ρ c 1 1 1 1 fullShare rfl HEq.rfl) $$ Hs11; iintro Hs11
  rw [wp_ret]; imodintro
  iapply Hk
  iexact Hs11

theorem part14_runs (v4 v6 v8 : BitVec 32) {Φ : (Σ' (v375 : FVec F S1024x1 .f32) (v386 : FVec F S1024x1 .f32), FVec F S1024x64 .f32) → sProp 𝕄} :
    iprop(records m ρ K ∗ cred (tallyAt (recvCell c 4) () N) ∗ ow c 0 ∗ atPos ER (recvCell c 4) 0 ∅ 0)
      ⊢ iprop(((ow c 0 ∗ semVal (recvCell c 4) 0 ∗ pts c 3 0 fullShare (full m ρ c)) -∗ Φ ⟨(val375 m ρ c), (val386 m ρ c), (val390 m ρ c)⟩)
        -∗ wp frame (wpE (defs₀ (F := F)) 𝒱₀ (c : Thread nD τ) none) Set.univ
          (k0_part14 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v8 (val136 m ρ c) (val267 m ρ c) (val278 m ρ c) (val282 m ρ c)) Φ) := by
  unfold val375 val386 val390
  rw [k0_part14_eq_skeleton]; unfold k0_part14_skel
  simp only [Prog.lift, Prog.bind_op, Prog.bind_ret, Prog.pure_eq_ret]
  iintro ⟨#HR, Hc, HO, Hat⟩ Hk
  iapply (step_recv m ρ K c 4 3 0 rfl rfl rfl (M := slotM 3 0) (M' := slotM 3 0) rfl) $$ [Hc HO Hat]
  · isplitr; · iexact HR
    isplitl [Hc]; · iexact Hc
    isplitl [HO] <;> iassumption
  iintro ⟨HO, Hz, Hs⟩
  iapply (step_load m ρ c 3 0 0 0 fullShare rfl HEq.rfl) $$ Hs; iintro Hs
  iapply (step_load m ρ c 3 0 1 0 fullShare rfl HEq.rfl) $$ Hs; iintro Hs
  rw [wp_ret]; imodintro
  iapply Hk
  isplitl [HO]; · iexact HO
  isplitl [Hz]; · iexact Hz
  iexact Hs

theorem part15_runs (v4 v6 v8 : BitVec 32) {Φ : (Σ' (v398 : FVec F S1024x1 .f32) (v409 : FVec F S1024x1 .f32), FVec F S1024x64 .f32) → sProp 𝕄} :
    iprop(pts c 3 0 fullShare (full m ρ c))
      ⊢ iprop(((pts c 3 0 fullShare (full m ρ c)) -∗ Φ ⟨(val398 m ρ c), (val409 m ρ c), (val413 m ρ c)⟩)
        -∗ wp frame (wpE (defs₀ (F := F)) 𝒱₀ (c : Thread nD τ) none) Set.univ
          (k0_part15 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v8 (val138 m ρ c) (val290 m ρ c) (val301 m ρ c) (val305 m ρ c)) Φ) := by
  unfold val398 val409 val413
  rw [k0_part15_eq_skeleton]; unfold k0_part15_skel
  simp only [Prog.lift, Prog.bind_op, Prog.bind_ret, Prog.pure_eq_ret]
  iintro Hs30 Hk
  iapply (step_load m ρ c 3 0 0 1 fullShare rfl HEq.rfl) $$ Hs30; iintro Hs30
  iapply (step_load m ρ c 3 0 1 1 fullShare rfl HEq.rfl) $$ Hs30; iintro Hs30
  rw [wp_ret]; imodintro
  iapply Hk
  iexact Hs30

theorem part16_runs {Φ : (Σ' (v429 : FVec F S1024x1 .f32) (v440 : FVec F S1024x1 .f32) (v444 : FVec F S1024x64 .f32) (v446 : FVec F S64x512 .bf16) (v448 : FVec F S64x512 .bf16), FVec F S1024x512 .f32) → sProp 𝕄} :
    iprop(records m ρ K ∗ cred (tallyAt (recvCell c 5) () N) ∗ ow c 0 ∗ atPos ER (recvCell c 5) 0 ∅ 0)
      ⊢ iprop(((ow c 0 ∗ semVal (recvCell c 5) 0 ∗ pts c 3 1 fullShare (full m ρ c)) -∗ Φ ⟨(val429 m ρ c), (val440 m ρ c), (val444 m ρ c), (val446 m ρ c), (val448 m ρ c), (constant S1024x512 .f32 0x00000000#32)⟩)
        -∗ wp frame (wpE (defs₀ (F := F)) 𝒱₀ (c : Thread nD τ) none) Set.univ
          (k0_part16 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val149 m ρ c) (val321 m ρ c) (val332 m ρ c) (val336 m ρ c)) Φ) := by
  unfold val429 val440 val444 val446 val448
  rw [k0_part16_eq_skeleton]; unfold k0_part16_skel
  simp only [Prog.lift, Prog.bind_op, Prog.bind_ret, Prog.pure_eq_ret]
  iintro ⟨#HR, Hc, HO, Hat⟩ Hk
  iapply (step_recv m ρ K c 5 3 1 rfl rfl rfl (M := slotM 3 1) (M' := slotM 3 1) rfl) $$ [Hc HO Hat]
  · isplitr; · iexact HR
    isplitl [Hc]; · iexact Hc
    isplitl [HO] <;> iassumption
  iintro ⟨HO, Hz, Hs⟩
  iapply (step_load m ρ c 3 1 0 0 fullShare rfl HEq.rfl) $$ Hs; iintro Hs
  iapply (step_load m ρ c 3 1 1 0 fullShare rfl HEq.rfl) $$ Hs; iintro Hs
  iapply (step_load m ρ c 3 1 0 1 fullShare rfl HEq.rfl) $$ Hs; iintro Hs
  iapply (step_load m ρ c 3 1 1 1 fullShare rfl HEq.rfl) $$ Hs; iintro Hs
  rw [wp_ret]; imodintro
  iapply Hk
  isplitl [HO]; · iexact HO
  isplitl [Hz]; · iexact Hz
  iexact Hs

theorem part17_runs (v4 v6 v8 : BitVec 32) {Φ : (Σ' (v452 : FVec F S1024x1 .f32) (v463 : FVec F S1024x1 .f32) (v467 : FVec F S1024x64 .f32), FVec F S64x512 .bf16) → sProp 𝕄} :
    iprop(records m ρ K ∗ cred (tallyAt (recvCell c 2) () N) ∗ ow c 0 ∗ atPos ER (recvCell c 2) 0 ∅ 0)
      ⊢ iprop(((ow c 0 ∗ semVal (recvCell c 2) 0 ∗ pts c 2 0 fullShare (full m ρ c)) -∗ Φ ⟨(val452 m ρ c), (val463 m ρ c), (val467 m ρ c), (val477 m ρ c)⟩)
        -∗ wp frame (wpE (defs₀ (F := F)) 𝒱₀ (c : Thread nD τ) none) Set.univ
          (k0_part17 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v6 (val151 m ρ c) (val344 m ρ c) (val355 m ρ c) (val359 m ρ c) (val446 m ρ c) (val448 m ρ c) (constant S1024x512 .f32 0x00000000#32)) Φ) := by
  unfold val452 val463 val467 val477
  rw [k0_part17_eq_skeleton]; unfold k0_part17_skel
  simp only [Prog.lift, Prog.bind_op, Prog.bind_ret, Prog.pure_eq_ret]
  iintro ⟨#HR, Hc, HO, Hat⟩ Hk
  iapply (step_recv m ρ K c 2 2 0 rfl rfl rfl (M := slotM 2 0) (M' := slotM 2 0) rfl) $$ [Hc HO Hat]
  · isplitr; · iexact HR
    isplitl [Hc]; · iexact Hc
    isplitl [HO] <;> iassumption
  iintro ⟨HO, Hz, Hs⟩
  iapply (step_load m ρ c 2 0 0 0 fullShare rfl HEq.rfl) $$ Hs; iintro Hs
  rw [wp_ret]; imodintro
  iapply Hk
  isplitl [HO]; · iexact HO
  isplitl [Hz]; · iexact Hz
  iexact Hs

theorem part18_runs {Φ : (Σ' (v494 : FVec F S1024x1 .f32) (v498 : FVec F S1024x64 .f32) (v502 : FVec F S64x512 .bf16) (v508 : FVec F S1024x1 .f32) (v512 : FVec F S1024x512 .bf16) (v513 : FVec F S1024x1 .f32), FVec F S1024 .f32) → sProp 𝕄} :
    iprop(pts c 2 0 fullShare (full m ρ c))
      ⊢ iprop(((pts c 2 0 fullShare (full m ρ c)) -∗ Φ ⟨(val494 m ρ c), (val498 m ρ c), (val502 m ρ c), (val508 m ρ c), (val512 m ρ c), (val513 m ρ c), (val515 m ρ c)⟩)
        -∗ wp frame (wpE (defs₀ (F := F)) 𝒱₀ (c : Thread nD τ) none) Set.univ
          (k0_part18 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val136 m ρ c) (val138 m ρ c) (val375 m ρ c) (val386 m ρ c) (val390 m ρ c) (val398 m ρ c) (val409 m ρ c) (val477 m ρ c)) Φ) := by
  unfold val494 val498 val502 val508 val512 val513 val515
  rw [k0_part18_eq_skeleton]; unfold k0_part18_skel
  simp only [Prog.lift, Prog.bind_op, Prog.bind_ret, Prog.pure_eq_ret]
  iintro Hs20 Hk
  iapply (step_load m ρ c 2 0 1 0 fullShare rfl HEq.rfl) $$ Hs20; iintro Hs20
  iapply (step_load m ρ c 2 0 0 1 fullShare rfl HEq.rfl) $$ Hs20; iintro Hs20
  iapply (step_load m ρ c 2 0 1 1 fullShare rfl HEq.rfl) $$ Hs20; iintro Hs20
  rw [wp_ret]; imodintro
  iapply Hk
  iexact Hs20

theorem part20_runs {Φ : (Σ' (v565 : FVec F S1024x1 .f32) (v569 : FVec F S1024x64 .f32) (v573 : FVec F S64x512 .bf16) (v574 : FVec F S1024x512 .f32) (v579 : FVec F S1024x1 .f32), FVec F S1024x512 .f32) → sProp 𝕄} :
    iprop(pts c 2 1 fullShare (full m ρ c))
      ⊢ iprop(((pts c 2 1 fullShare (full m ρ c)) -∗ Φ ⟨(val565 m ρ c), (val569 m ρ c), (val573 m ρ c), (val574 m ρ c), (val579 m ρ c), (val580 m ρ c)⟩)
        -∗ wp frame (wpE (defs₀ (F := F)) 𝒱₀ (c : Thread nD τ) none) Set.univ
          (k0_part20 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val149 m ρ c) (val151 m ρ c) (val429 m ρ c) (val440 m ρ c) (val444 m ρ c) (val452 m ρ c)) Φ) := by
  unfold val565 val569 val573 val574 val579 val580
  rw [k0_part20_eq_skeleton]; unfold k0_part20_skel
  simp only [Prog.lift, Prog.bind_op, Prog.bind_ret, Prog.pure_eq_ret]
  iintro Hs21 Hk
  iapply (step_load m ρ c 2 1 0 0 fullShare rfl HEq.rfl) $$ Hs21; iintro Hs21
  iapply (step_load m ρ c 2 1 1 0 fullShare rfl HEq.rfl) $$ Hs21; iintro Hs21
  iapply (step_load m ρ c 2 1 0 1 fullShare rfl HEq.rfl) $$ Hs21; iintro Hs21
  iapply (step_load m ρ c 2 1 1 1 fullShare rfl HEq.rfl) $$ Hs21; iintro Hs21
  rw [wp_ret]; imodintro
  iapply Hk
  iexact Hs21

end Parts

end Cert.KernelIdealProof
-- ==== Proof.KernelIdeal.Sends.lean ====
/-
# The body's other stretches: the hand-shake, the stores and copies that start the all-gather, the output, the last waits
-/
module

public import proofs.«01_k».proof.Proof.KernelIdeal.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Sends

variable (K : Dev nD × Option (Fin 12) → ℕ) (c : Dev nD)

theorem all_slabs : (insert (1, 1) (insert (0, 1) (insert (1, 0) (insert (0, 0) ∅))) : Finset (Fin 2 × Fin 2)) = Finset.univ := by decide

/-- A slot 0 written in full, as the shares its copies and the loads take. -/
theorem part_whole (b : Fin 2) :
    (part m ρ c b (insert (1, 1) (insert (0, 1) (insert (1, 0) (insert (0, 0) ∅)))) : sProp 𝕄)
      ⊢ iprop(pts c 0 b (sh 0) (full m ρ c) ∗ pts c 0 b (sh 1) (full m ρ c) ∗ pts c 0 b (sh 2) (full m ρ c) ∗ pts c 0 b shL (full m ρ c)) := by
  rw [all_slabs]
  refine (part_done m ρ c b).trans ?_
  rw [pts_shares]
  iintro ⟨⟨H0, H1⟩, H2, H3⟩
  isplitl [H0]; · iexact H0
  isplitl [H1]; · iexact H1
  isplitl [H2] <;> iassumption

theorem part1_runs {Φ : (Σ' (d0 : Dev nD) (v4 : BitVec 32) (v6 : BitVec 32), BitVec 32) → sProp 𝕄} :
    iprop(records m ρ K ∗ levAts L lv ∗ cred (tallyAt (barCell c) () 3) ∗ ow c (O₀ c) ∗ atPos ER (barCell c) 0 ∅ 0 ∗ dutyTok ER (barCell (peer c 0)) 0 (rev 0) ∗ (∃ f, pts c (slot (rev 0)) 0 fullShare f) ∗ (∃ f, pts c (slot (rev 0)) 1 fullShare f) ∗ dutyTok ER (barCell (peer c 1)) 0 (rev 1) ∗ (∃ f, pts c (slot (rev 1)) 0 fullShare f) ∗ (∃ f, pts c (slot (rev 1)) 1 fullShare f) ∗ dutyTok ER (barCell (peer c 2)) 0 (rev 2) ∗ (∃ f, pts c (slot (rev 2)) 0 fullShare f) ∗ (∃ f, pts c (slot (rev 2)) 1 fullShare f) ∗ hold c cc0_stg3_0 (kstg m ρ c) ∗ part m ρ c 0 ∅)
      ⊢ iprop((∀ v4 v6 v8, (ow c (owe c order) ∗ semVal (barCell c) 0 ∗ (barPay c 0 ∗ barPay c 1 ∗ barPay c 2) ∗ hold c cc0_stg3_0 (kstg m ρ c) ∗ part m ρ c 0 (insert (0, 0) ∅)) -∗ Φ ⟨c, v4, v6, v8⟩)
        -∗ wp frame (wpE (defs₀ (F := F)) 𝒱₀ (c : Thread nD τ) none) Set.univ
          (k0_part1 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 ) Φ) := by
  rw [k0_part1_eq_skeleton]; unfold k0_part1_skel
  simp only [semSignalWord, semWaitWord, Prog.lift, Prog.bind_op, Prog.bind_ret, Prog.pure_eq_ret, wp_deviceId]
  iintro ⟨#HR, #Hlev, Hc, HO, Hat, Ht0, Ha0, Hb0, Ht1, Ha1, Hb1, Ht2, Ha2, Hb2, Hg3, Hp⟩ Hk
  iapply (step_signal m ρ K c 0 rfl (dev1_eq c) rfl rfl (O := O₁ c)) $$ [HO Ht0 Ha0 Hb0]
  · isplitr; · iexact HR
    isplitl [HO]; · iexact HO
    isplitl [Ht0]; · iexact Ht0
    isplitl [Ha0] <;> iassumption
  iintro HO
  iapply (step_signal m ρ K c 1 rfl (dev2_eq c) rfl rfl (O := O₂ c)) $$ [HO Ht1 Ha1 Hb1]
  · isplitr; · iexact HR
    isplitl [HO]; · iexact HO
    isplitl [Ht1]; · iexact Ht1
    isplitl [Ha1] <;> iassumption
  iintro HO
  iapply (step_signal m ρ K c 2 rfl (dev3_eq c) rfl rfl (O := owe c order)) $$ [HO Ht2 Ha2 Hb2]
  · isplitr; · iexact HR
    isplitl [HO]; · iexact HO
    isplitl [Ht2]; · iexact Ht2
    isplitl [Ha2] <;> iassumption
  iintro HO
  iapply (step_barrier m ρ K c rfl rfl) $$ [Hc HO Hat]
  · isplitr; · iexact HR
    isplitr; · iexact Hlev
    isplitl [Hc]; · iexact Hc
    isplitl [HO] <;> iassumption
  iintro ⟨HO, Hz, HP⟩
  iapply (step_stage c kM (kvR 0 0) (kstg m ρ c) rfl HEq.rfl) $$ Hg3; iintro Hg3
  iapply (step_peek m ρ c 0 0 0 ∅ rfl) $$ Hp; iintro %w Hp
  iapply (step_store m ρ c 0 0 0 ∅ rfl (heq_of_eq rfl)) $$ Hp; iintro Hp
  rw [wp_ret]; imodintro
  iapply Hk
  isplitl [HO]; · iexact HO
  isplitl [Hz]; · iexact Hz
  isplitl [HP]; · iexact HP
  isplitl [Hg3]; · iexact Hg3
  iexact Hp

theorem part2_runs (v4 : BitVec 32) {Φ : (PUnit) → sProp 𝕄} :
    iprop(hold c cc0_stg3_0 (kstg m ρ c) ∗ hold c cc0_stg4_0 (vstg m ρ c) ∗ part m ρ c 0 (insert (0, 0) ∅))
      ⊢ iprop(((hold c cc0_stg3_0 (kstg m ρ c) ∗ hold c cc0_stg4_0 (vstg m ρ c) ∗ part m ρ c 0 (insert (1, 1) (insert (0, 1) (insert (1, 0) (insert (0, 0) ∅))))) -∗ Φ ⟨⟩)
        -∗ wp frame (wpE (defs₀ (F := F)) 𝒱₀ (c : Thread nD τ) none) Set.univ
          (k0_part2 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v4) Φ) := by
  rw [k0_part2_eq_skeleton]; unfold k0_part2_skel
  simp only [Prog.lift, Prog.bind_op, Prog.bind_ret, Prog.pure_eq_ret]
  iintro ⟨Hg3, Hg4, Hp⟩ Hk
  iapply (step_stage c vM (kvR 0 0) (vstg m ρ c) rfl HEq.rfl) $$ Hg4; iintro Hg4
  iapply (step_peek m ρ c 0 1 0 (insert (0, 0) ∅) rfl) $$ Hp; iintro %w Hp
  iapply (step_store m ρ c 0 1 0 (insert (0, 0) ∅) rfl (heq_of_eq rfl)) $$ Hp; iintro Hp
  iapply (step_stage c kM (kvR 0 1) (kstg m ρ c) rfl HEq.rfl) $$ Hg3; iintro Hg3
  iapply (step_peek m ρ c 0 0 1 (insert (1, 0) (insert (0, 0) ∅)) rfl) $$ Hp; iintro %w Hp
  iapply (step_store m ρ c 0 0 1 (insert (1, 0) (insert (0, 0) ∅)) rfl (heq_of_eq rfl)) $$ Hp; iintro Hp
  iapply (step_stage c vM (kvR 0 1) (vstg m ρ c) rfl HEq.rfl) $$ Hg4; iintro Hg4
  iapply (step_peek m ρ c 0 1 1 (insert (0, 1) (insert (1, 0) (insert (0, 0) ∅))) rfl) $$ Hp; iintro %w Hp
  iapply (step_store m ρ c 0 1 1 (insert (0, 1) (insert (1, 0) (insert (0, 0) ∅))) rfl (heq_of_eq rfl)) $$ Hp; iintro Hp
  rw [wp_ret]; imodintro
  iapply Hk
  isplitl [Hg3]; · iexact Hg3
  isplitl [Hg4]; · iexact Hg4
  iexact Hp

theorem part3_runs (v6 v8 : BitVec 32) {Φ : (PUnit) → sProp 𝕄} :
    iprop(records m ρ K ∗ ow c (owe c [0, 2, 4, 1, 3, 5]) ∗ pts c 0 0 (sh 0) (full m ρ c) ∗ (∃ f, pts (peer c 0) (slot 0) 0 fullShare f) ∗ xtok c 0 ∗ pts c 0 0 (sh 1) (full m ρ c) ∗ (∃ f, pts (peer c 1) (slot 1) 0 fullShare f) ∗ xtok c 2)
      ⊢ iprop(((ow c (owe c [4, 1, 3, 5]) ∗ cred (tallyAt (sendCell c 0) () N) ∗ cred (tallyAt (sendCell c 2) () N)) -∗ Φ ⟨⟩)
        -∗ wp frame (wpE (defs₀ (F := F)) 𝒱₀ (c : Thread nD τ) none) Set.univ
          (k0_part3 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 c v6 v8) Φ) := by
  rw [k0_part3_eq_skeleton]; unfold k0_part3_skel
  simp only [Prog.lift, Prog.bind_op, Prog.bind_ret, Prog.pure_eq_ret]
  iintro ⟨#HR, HO, HS0, HD0, HX0, HS2, HD2, HX2⟩ Hk
  iapply (step_send m ρ K c 0 0 0 rfl rfl [2, 4, 1, 3, 5] (dev4_eq c) rfl rfl rfl rfl) $$ [HS0 HD0 HO HX0]
  · isplitr; · iexact HR
    isplitl [HS0]; · iexact HS0
    isplitl [HD0]; · iexact HD0
    isplitl [HO] <;> iassumption
  iintro ⟨HC0, HO⟩
  iapply (step_send m ρ K c 2 1 0 rfl rfl [4, 1, 3, 5] (dev5_eq c) rfl rfl rfl rfl) $$ [HS2 HD2 HO HX2]
  · isplitr; · iexact HR
    isplitl [HS2]; · iexact HS2
    isplitl [HD2]; · iexact HD2
    isplitl [HO] <;> iassumption
  iintro ⟨HC2, HO⟩
  rw [wp_ret]; imodintro
  iapply Hk
  isplitl [HO]; · iexact HO
  isplitl [HC0]; · iexact HC0
  iexact HC2

theorem part4_runs {Φ : (FVec F S64x512 .bf16) → sProp 𝕄} :
    iprop(records m ρ K ∗ ow c (owe c [4, 1, 3, 5]) ∗ pts c 0 0 (sh 2) (full m ρ c) ∗ (∃ f, pts (peer c 2) (slot 2) 0 fullShare f) ∗ xtok c 4 ∗ hold c cc0_stg3_0 (kstg m ρ c) ∗ hold c cc0_stg4_0 (vstg m ρ c) ∗ part m ρ c 1 ∅)
      ⊢ iprop(((ow c (owe c [1, 3, 5]) ∗ cred (tallyAt (sendCell c 4) () N) ∗ hold c cc0_stg3_0 (kstg m ρ c) ∗ hold c cc0_stg4_0 (vstg m ρ c) ∗ part m ρ c 1 (insert (1, 0) (insert (0, 0) ∅))) -∗ Φ (val84 m ρ c))
        -∗ wp frame (wpE (defs₀ (F := F)) 𝒱₀ (c : Thread nD τ) none) Set.univ
          (k0_part4 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 c) Φ) := by
  unfold val84 kvread
  rw [k0_part4_eq_skeleton]; unfold k0_part4_skel
  simp only [Prog.lift, Prog.bind_op, Prog.bind_ret, Prog.pure_eq_ret]
  iintro ⟨#HR, HO, HS4, HD4, HX4, Hg3, Hg4, Hp⟩ Hk
  iapply (step_send m ρ K c 4 2 0 rfl rfl [1, 3, 5] (dev6_eq c) rfl rfl rfl rfl) $$ [HS4 HD4 HO HX4]
  · isplitr; · iexact HR
    isplitl [HS4]; · iexact HS4
    isplitl [HD4]; · iexact HD4
    isplitl [HO] <;> iassumption
  iintro ⟨HC4, HO⟩
  iapply (step_stage c kM (kvR 1 0) (kstg m ρ c) rfl HEq.rfl) $$ Hg3; iintro Hg3
  iapply (step_peek m ρ c 1 0 0 ∅ rfl) $$ Hp; iintro %w Hp
  iapply (step_store m ρ c 1 0 0 ∅ rfl (heq_of_eq rfl)) $$ Hp; iintro Hp
  iapply (step_stage c vM (kvR 1 0) (vstg m ρ c) rfl HEq.rfl) $$ Hg4; iintro Hg4
  iapply (step_peek m ρ c 1 1 0 (insert (0, 0) ∅) rfl) $$ Hp; iintro %w Hp
  iapply (step_store m ρ c 1 1 0 (insert (0, 0) ∅) rfl (heq_of_eq rfl)) $$ Hp; iintro Hp
  iapply (step_stage c kM (kvR 1 1) (kstg m ρ c) rfl HEq.rfl) $$ Hg3; iintro Hg3
  rw [wp_ret]; imodintro
  iapply Hk
  isplitl [HO]; · iexact HO
  isplitl [HC4]; · iexact HC4
  isplitl [Hg3]; · iexact Hg3
  isplitl [Hg4]; · iexact Hg4
  iexact Hp

theorem part5_runs (v4 : BitVec 32) {Φ : (PUnit) → sProp 𝕄} :
    iprop(records m ρ K ∗ ow c (owe c [1, 3, 5]) ∗ (∃ f, pts (peer c 0) (slot 0) 1 fullShare f) ∗ xtok c 1 ∗ hold c cc0_stg4_0 (vstg m ρ c) ∗ part m ρ c 1 (insert (1, 0) (insert (0, 0) ∅)))
      ⊢ iprop(((ow c (owe c [3, 5]) ∗ cred (tallyAt (sendCell c 1) () N) ∗ hold c cc0_stg4_0 (vstg m ρ c) ∗ pts c 0 1 (sh 1) (full m ρ c) ∗ pts c 0 1 (sh 2) (full m ρ c) ∗ pts c 0 1 shL (full m ρ c)) -∗ Φ ⟨⟩)
        -∗ wp frame (wpE (defs₀ (F := F)) 𝒱₀ (c : Thread nD τ) none) Set.univ
          (k0_part5 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 c v4 (val84 m ρ c)) Φ) := by
  rw [k0_part5_eq_skeleton]; unfold k0_part5_skel
  simp only [Prog.lift, Prog.bind_op, Prog.bind_ret, Prog.pure_eq_ret]
  iintro ⟨#HR, HO, HD1, HX1, Hg4, Hp⟩ Hk
  iapply (step_peek m ρ c 1 0 1 (insert (1, 0) (insert (0, 0) ∅)) rfl) $$ Hp; iintro %w Hp
  iapply (step_store m ρ c 1 0 1 (insert (1, 0) (insert (0, 0) ∅)) rfl (heq_of_eq rfl)) $$ Hp; iintro Hp
  iapply (step_stage c vM (kvR 1 1) (vstg m ρ c) rfl HEq.rfl) $$ Hg4; iintro Hg4
  iapply (step_peek m ρ c 1 1 1 (insert (0, 1) (insert (1, 0) (insert (0, 0) ∅))) rfl) $$ Hp; iintro %w Hp
  iapply (step_store m ρ c 1 1 1 (insert (0, 1) (insert (1, 0) (insert (0, 0) ∅))) rfl (heq_of_eq rfl)) $$ Hp; iintro Hp
  ihave Hf := (part_whole m ρ c 1) $$ Hp
  icases Hf with ⟨HS1, HS3, HS5, HL⟩
  iapply (step_send m ρ K c 1 0 1 rfl rfl [3, 5] (dev7_eq c) rfl rfl rfl rfl) $$ [HS1 HD1 HO HX1]
  · isplitr; · iexact HR
    isplitl [HS1]; · iexact HS1
    isplitl [HD1]; · iexact HD1
    isplitl [HO] <;> iassumption
  iintro ⟨HC1, HO⟩
  rw [wp_ret]; imodintro
  iapply Hk
  isplitl [HO]; · iexact HO
  isplitl [HC1]; · iexact HC1
  isplitl [Hg4]; · iexact Hg4
  isplitl [HS3]; · iexact HS3
  isplitl [HS5]; · iexact HS5
  iexact HL

theorem part6_runs (v6 v8 : BitVec 32) {Φ : (Σ' (v125 : FVec F S768x512 .bf16) (v127 : FVec F S256x768 .bf16), FVec F S256x512 .f32) → sProp 𝕄} :
    iprop(records m ρ K ∗ ow c (owe c [3, 5]) ∗ pts c 0 1 (sh 1) (full m ρ c) ∗ (∃ f, pts (peer c 1) (slot 1) 1 fullShare f) ∗ xtok c 3 ∗ pts c 0 1 (sh 2) (full m ρ c) ∗ (∃ f, pts (peer c 2) (slot 2) 1 fullShare f) ∗ xtok c 5 ∗ hold c cc0_stg0_0 (xstg m ρ c) ∗ hold c cc0_stg1_0 (wqstg m ρ c))
      ⊢ iprop(((ow c 0 ∗ cred (tallyAt (sendCell c 3) () N) ∗ cred (tallyAt (sendCell c 5) () N) ∗ hold c cc0_stg0_0 (xstg m ρ c) ∗ hold c cc0_stg1_0 (wqstg m ρ c)) -∗ Φ ⟨val125 m ρ c, val127 m ρ c, constant S256x512 .f32 0x00000000#32⟩)
        -∗ wp frame (wpE (defs₀ (F := F)) 𝒱₀ (c : Thread nD τ) none) Set.univ
          (k0_part6 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 c v6 v8) Φ) := by
  unfold val125 val127 xread wqread
  rw [k0_part6_eq_skeleton]; unfold k0_part6_skel
  simp only [Prog.lift, Prog.bind_op, Prog.bind_ret, Prog.pure_eq_ret]
  iintro ⟨#HR, HO, HS3, HD3, HX3, HS5, HD5, HX5, Hg0, Hg1⟩ Hk
  iapply (step_send m ρ K c 3 1 1 rfl rfl [5] (dev8_eq c) rfl rfl rfl rfl) $$ [HS3 HD3 HO HX3]
  · isplitr; · iexact HR
    isplitl [HS3]; · iexact HS3
    isplitl [HD3]; · iexact HD3
    isplitl [HO] <;> iassumption
  iintro ⟨HC3, HO⟩
  iapply (step_send m ρ K c 5 2 1 rfl rfl [] (dev9_eq c) rfl rfl rfl rfl) $$ [HS5 HD5 HO HX5]
  · isplitr; · iexact HR
    isplitl [HS5]; · iexact HS5
    isplitl [HD5]; · iexact HD5
    isplitl [HO] <;> iassumption
  iintro ⟨HC5, HO⟩
  iapply (step_stage c wqM wqR (wqstg m ρ c) rfl HEq.rfl) $$ Hg1; iintro Hg1
  iapply (step_stage c xM (xR 0) (xstg m ρ c) rfl HEq.rfl) $$ Hg0; iintro Hg0
  rw [wp_ret]; imodintro
  iapply Hk
  isplitl [HO]; · iexact HO
  isplitl [HC3]; · iexact HC3
  isplitl [HC5]; · iexact HC5
  isplitl [Hg0]; · iexact Hg0
  iexact Hg1

theorem part19_runs (v6 : BitVec 32) (f : (cc0_stg5_0 : Ref sig .tc).ty.Contents (Elt F)) {Φ : (PUnit) → sProp 𝕄} :
    iprop(records m ρ K ∗ cred (tallyAt (recvCell c 3) () N) ∗ ow c 0 ∗ atPos ER (recvCell c 3) 0 ∅ 0 ∗ hold c cc0_stg5_0 f)
      ⊢ iprop(((ow c 0 ∗ semVal (recvCell c 3) 0 ∗ pts c 2 1 fullShare (full m ρ c) ∗ hold c cc0_stg5_0 (((oM : Memref sig .tc .vmem S2x256x768 .f32).access (xR 0)).write (Elt F) f (out0 m ρ c) Finset.univ)) -∗ Φ ⟨⟩)
        -∗ wp frame (wpE (defs₀ (F := F)) 𝒱₀ (c : Thread nD τ) none) Set.univ
          (k0_part19 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 v6 (val159 m ρ c) (val413 m ρ c) (val494 m ρ c) (val498 m ρ c) (val502 m ρ c) (val508 m ρ c) (val512 m ρ c) (val513 m ρ c) (val515 m ρ c)) Φ) := by
  unfold out0
  rw [k0_part19_eq_skeleton]; unfold k0_part19_skel
  simp only [Prog.lift, Prog.bind_op, Prog.bind_ret, Prog.pure_eq_ret]
  iintro ⟨#HR, Hc, HO, Hat, Hg5⟩ Hk
  iapply (wp_load 𝒱₀ (c : Thread nD τ) none Set.univ (m := oM) (Finset.subset_univ _)) $$ Hg5; iintro Hg5
  iapply (wp_store 𝒱₀ (c : Thread nD τ) none Set.univ (m := oM) (r := xR 0) (Mk := Finset.univ) (Finset.subset_univ _)) $$ Hg5; iintro Hg5
  iapply (step_recv m ρ K c 3 2 1 rfl rfl rfl (M := slotM 2 1) (M' := slotM 2 1) rfl) $$ [Hc HO Hat]
  · isplitr; · iexact HR
    isplitl [Hc]; · iexact Hc
    isplitl [HO] <;> iassumption
  iintro ⟨HO, Hz, Hs⟩
  rw [wp_ret]; imodintro
  iapply Hk
  isplitl [HO]; · iexact HO
  isplitl [Hz]; · iexact Hz
  isplitl [Hs]; · iexact Hs
  iexact Hg5

theorem part21_runs (f : (cc0_stg5_0 : Ref sig .tc).ty.Contents (Elt F)) {Φ : (PUnit) → sProp 𝕄} :
    iprop(records m ρ K ∗ ow c 0 ∗ cred (tallyAt (sendCell c 0) () N) ∗ atPos ER (sendCell c 0) 0 ∅ 0 ∗ hold c cc0_stg5_0 f)
      ⊢ iprop(((ow c 0 ∗ semVal (sendCell c 0) 0 ∗ pts c 0 0 (sh 0) (full m ρ c) ∗ hold c cc0_stg5_0 (((oM : Memref sig .tc .vmem S2x256x768 .f32).access (xR 1)).write (Elt F) f (out1 m ρ c) Finset.univ)) -∗ Φ ⟨⟩)
        -∗ wp frame (wpE (defs₀ (F := F)) 𝒱₀ (c : Thread nD τ) none) Set.univ
          (k0_part21 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 (val159 m ρ c) (val463 m ρ c) (val467 m ρ c) (val565 m ρ c) (val569 m ρ c) (val573 m ρ c) (val574 m ρ c) (val579 m ρ c) (val580 m ρ c)) Φ) := by
  unfold out1
  rw [k0_part21_eq_skeleton]; unfold k0_part21_skel
  simp only [Prog.lift, Prog.bind_op, Prog.bind_ret, Prog.pure_eq_ret]
  iintro ⟨#HR, HO, HC0, HA0, Hg5⟩ Hk
  iapply (wp_load 𝒱₀ (c : Thread nD τ) none Set.univ (m := oM) (Finset.subset_univ _)) $$ Hg5; iintro Hg5
  iapply (wp_store 𝒱₀ (c : Thread nD τ) none Set.univ (m := oM) (r := xR 1) (Mk := Finset.univ) (Finset.subset_univ _)) $$ Hg5; iintro Hg5
  iapply (step_sent m ρ K c 0 0 0 rfl rfl rfl (M := slotM 1 0) (M' := slotM 0 0) rfl) $$ [HC0 HO HA0]
  · isplitr; · iexact HR
    isplitl [HC0]; · iexact HC0
    isplitl [HO] <;> iassumption
  iintro ⟨HO, HZ0, HS0⟩
  rw [wp_ret]; imodintro
  iapply Hk
  isplitl [HO]; · iexact HO
  isplitl [HZ0]; · iexact HZ0
  isplitl [HS0]; · iexact HS0
  iexact Hg5

theorem part22_runs {Φ : (PUnit) → sProp 𝕄} :
    iprop(records m ρ K ∗ ow c 0 ∗ cred (tallyAt (sendCell c 2) () N) ∗ atPos ER (sendCell c 2) 0 ∅ 0 ∗ cred (tallyAt (sendCell c 4) () N) ∗ atPos ER (sendCell c 4) 0 ∅ 0)
      ⊢ iprop(((ow c 0 ∗ semVal (sendCell c 2) 0 ∗ pts c 0 0 (sh 1) (full m ρ c) ∗ semVal (sendCell c 4) 0 ∗ pts c 0 0 (sh 2) (full m ρ c)) -∗ Φ ⟨⟩)
        -∗ wp frame (wpE (defs₀ (F := F)) 𝒱₀ (c : Thread nD τ) none) Set.univ
          (k0_part22 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 ) Φ) := by
  rw [k0_part22_eq_skeleton]; unfold k0_part22_skel
  simp only [Prog.lift, Prog.bind_op, Prog.bind_ret, Prog.pure_eq_ret]
  iintro ⟨#HR, HO, HC2, HA2, HC4, HA4⟩ Hk
  iapply (step_sent m ρ K c 2 1 0 rfl rfl rfl (M := slotM 2 0) (M' := slotM 0 0) rfl) $$ [HC2 HO HA2]
  · isplitr; · iexact HR
    isplitl [HC2]; · iexact HC2
    isplitl [HO] <;> iassumption
  iintro ⟨HO, HZ2, HS2⟩
  iapply (step_sent m ρ K c 4 2 0 rfl rfl rfl (M := slotM 3 0) (M' := slotM 0 0) rfl) $$ [HC4 HO HA4]
  · isplitr; · iexact HR
    isplitl [HC4]; · iexact HC4
    isplitl [HO] <;> iassumption
  iintro ⟨HO, HZ4, HS4⟩
  rw [wp_ret]; imodintro
  iapply Hk
  isplitl [HO]; · iexact HO
  isplitl [HZ2]; · iexact HZ2
  isplitl [HS2]; · iexact HS2
  isplitl [HZ4]; · iexact HZ4
  iexact HS4

theorem part23_runs {Φ : (PUnit) → sProp 𝕄} :
    iprop(records m ρ K ∗ ow c 0 ∗ cred (tallyAt (sendCell c 1) () N) ∗ atPos ER (sendCell c 1) 0 ∅ 0 ∗ cred (tallyAt (sendCell c 3) () N) ∗ atPos ER (sendCell c 3) 0 ∅ 0 ∗ cred (tallyAt (sendCell c 5) () N) ∗ atPos ER (sendCell c 5) 0 ∅ 0)
      ⊢ iprop(((ow c 0 ∗ semVal (sendCell c 1) 0 ∗ pts c 0 1 (sh 0) (full m ρ c) ∗ semVal (sendCell c 3) 0 ∗ pts c 0 1 (sh 1) (full m ρ c) ∗ semVal (sendCell c 5) 0 ∗ pts c 0 1 (sh 2) (full m ρ c)) -∗ Φ ⟨⟩)
        -∗ wp frame (wpE (defs₀ (F := F)) 𝒱₀ (c : Thread nD τ) none) Set.univ
          (k0_part23 xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2 ) Φ) := by
  rw [k0_part23_eq_skeleton]; unfold k0_part23_skel
  simp only [Prog.lift, Prog.bind_op, Prog.bind_ret, Prog.pure_eq_ret]
  iintro ⟨#HR, HO, HC1, HA1, HC3, HA3, HC5, HA5⟩ Hk
  iapply (step_sent m ρ K c 1 0 1 rfl rfl rfl (M := slotM 1 1) (M' := slotM 0 1) rfl) $$ [HC1 HO HA1]
  · isplitr; · iexact HR
    isplitl [HC1]; · iexact HC1
    isplitl [HO] <;> iassumption
  iintro ⟨HO, HZ1, HS1⟩
  iapply (step_sent m ρ K c 3 1 1 rfl rfl rfl (M := slotM 2 1) (M' := slotM 0 1) rfl) $$ [HC3 HO HA3]
  · isplitr; · iexact HR
    isplitl [HC3]; · iexact HC3
    isplitl [HO] <;> iassumption
  iintro ⟨HO, HZ3, HS3⟩
  iapply (step_sent m ρ K c 5 2 1 rfl rfl rfl (M := slotM 3 1) (M' := slotM 0 1) rfl) $$ [HC5 HO HA5]
  · isplitr; · iexact HR
    isplitl [HC5]; · iexact HC5
    isplitl [HO] <;> iassumption
  iintro ⟨HO, HZ5, HS5⟩
  rw [wp_ret]; imodintro
  iapply Hk
  isplitl [HO]; · iexact HO
  isplitl [HZ1]; · iexact HZ1
  isplitl [HS1]; · iexact HS1
  isplitl [HZ3]; · iexact HZ3
  isplitl [HS3]; · iexact HS3
  isplitl [HZ5]; · iexact HZ5
  iexact HS5

end Sends

end Cert.KernelIdealProof
-- ==== Proof.KernelIdeal.Body.lean ====
/-
# The body of the kernel, run once on a symbolic device

`sound_body` strings the stretches of Proof/KernelIdeal/Parts.lean and Proof/KernelIdeal/Sends.lean together;
`body_obligation` is the library's statement of the same.
-/
module

public import proofs.«01_k».proof.Proof.KernelIdeal.Sends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

def all3 (P : Fin 3 → sProp 𝕄) : sProp 𝕄 := iprop(P 0 ∗ P 1 ∗ P 2)
def all6 (P : Fin 6 → sProp 𝕄) : sProp 𝕄 := iprop(P 0 ∗ P 1 ∗ P 2 ∗ P 3 ∗ P 4 ∗ P 5)

theorem bigSep_all3 (P : Fin 3 → sProp 𝕄) : bigSep Finset.univ P = all3 P :=
  bigSep_univ_eq_bigSepL [0, 1, 2] (by decide) (by decide) P
theorem bigSep_all6 (P : Fin 6 → sProp 𝕄) : bigSep Finset.univ P = all6 P :=
  bigSep_univ_eq_bigSepL [0, 1, 2, 3, 4, 5] (by decide) (by decide) P

/-- What device `c` holds of the thirteen cells at names `K`: the invariants, its own cells' positions, the tokens of the
    duties it pays. -/
def ghost (K : Dev nD × Option (Fin 12) → ℕ) (c : Dev nD) : sProp 𝕄 :=
  iprop(records m ρ K ∗ atPos ER (barCell c) 0 ∅ 0 ∗ (all6 fun s => atPos ER (sendCell c s) 0 ∅ 0) ∗ (all6 fun s => atPos ER (recvCell c s) 0 ∅ 0)
    ∗ (all3 fun i => dutyTok ER (barCell (peer c i)) 0 (rev i)) ∗ all6 fun s => xtok c s)

/-- What device `c`'s body starts from, with its credit tokens and the levels. -/
def start (c : Dev nD) : sProp 𝕄 :=
  iprop((∃ K, ghost m ρ K c) ∗ cred (tallyAt (barCell c) () 3) ∗ (all6 fun s => cred (tallyAt (recvCell c s) () N)) ∗ levAts L lv)

abbrev scrPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m ρ c ∗ ∃ f, scrPts c f)
/-- After the body: the gathered buffer, and the thirteen cells at zero. -/
def Φ₁ (c : Dev nD) : sProp 𝕄 :=
  iprop(scrPts c (full m ρ c) ∗ (all6 fun s => semVal (sendCell c s) 0) ∗ (all6 fun s => semVal (recvCell c s) 0) ∗ semVal (barCell c) 0)

set_option backward.proofsInPublic true in
/-- An index of the output block as one of the single batch that holds it. -/
def inBatch (j : S2x256x768.Idx) : S1x256x768.Idx :=
  fun a => ⟨if a.val < 1 then 0 else (j a).val, by
    have h := (j a).isLt
    fin_cases a <;> first | exact Nat.one_pos | exact h⟩

/-- The output block: both batches written. -/
def outBlk (c : Dev nD) : (cc0_stg5_0 : Ref sig .tc).ty.Contents (Elt F) :=
  fun (j : S2x256x768.Idx) => if (j 0).val = 0 then out0 m ρ c (inBatch j) else out1 m ρ c (inBatch j)

theorem emb_inBatch (j : S2x256x768.Idx) (b : Fin 2) (h : (j 0).val = b.val) : (xR b).emb (inBatch j) = j :=
  funext fun a => Fin.ext (by
    fin_cases a
    · exact h.symm
    · show 0 + 1 * (j 1).val = (j 1).val; omega
    · show 0 + 1 * (j 2).val = (j 2).val; omega)

/-- Whatever stood in the output block before is gone. -/
theorem outAt_eq (c : Dev nD) (f : (cc0_stg5_0 : Ref sig .tc).ty.Contents (Elt F)) : outAt m ρ c f = outBlk m ρ c := by
  funext (j : S2x256x768.Idx)
  have hj : (j 0).val < 2 := (j 0).isLt
  unfold outAt
  by_cases h : (j 0).val = 0
  · rw [View.write_of_not_mem (v := (oM : Memref sig .tc .vmem S2x256x768 .f32).access (xR 1)) (Val := Elt F) _ (out1 m ρ c) Finset.univ (by
      intro hc
      obtain ⟨x, -, hx⟩ := Finset.mem_map.mp hc
      have : ((xR 1).emb x 0).val = (j 0).val := congrArg (fun i : S2x256x768.Idx => (i 0).val) hx
      have h1 : ((xR 1).emb x 0).val = 1 + 1 * (x 0).val := rfl
      omega)]
    have := View.write_emb_of_mem (v := (oM : Memref sig .tc .vmem S2x256x768 .f32).access (xR 0)) (Val := Elt F) f (out0 m ρ c) (Finset.mem_univ (inBatch j))
    rw [show ((oM : Memref sig .tc .vmem S2x256x768 .f32).access (xR 0)).emb (inBatch j) = j from emb_inBatch j 0 h] at this
    rw [this]; exact (if_pos h).symm
  · have := View.write_emb_of_mem (v := (oM : Memref sig .tc .vmem S2x256x768 .f32).access (xR 1)) (Val := Elt F)
      (((oM : Memref sig .tc .vmem S2x256x768 .f32).access (xR 0)).write (Elt F) f (out0 m ρ c) Finset.univ) (out1 m ρ c) (Finset.mem_univ (inBatch j))
    rw [show ((oM : Memref sig .tc .vmem S2x256x768 .f32).access (xR 1)).emb (inBatch j) = j from emb_inBatch j 1 (by show _ = 1; omega)] at this
    rw [this]; exact (if_neg h).symm

section Body

variable (K : Dev nD × Option (Fin 12) → ℕ) (c : Dev nD)

def bodyPre (f5 : (cc0_stg5_0 : Ref sig .tc).ty.Contents (Elt F)) : sProp 𝕄 :=
  iprop(ghost m ρ K c ∗ cred (tallyAt (barCell c) () 3) ∗ (all6 fun s => cred (tallyAt (recvCell c s) () N)) ∗ levAts L lv ∗ (∃ f, scrPts c f)
    ∗ ow c (O₀ c) ∗ hold c cc0_stg0_0 (xstg m ρ c) ∗ hold c cc0_stg1_0 (wqstg m ρ c) ∗ hold c cc0_stg2_0 (wostg m ρ c)
    ∗ hold c cc0_stg3_0 (kstg m ρ c) ∗ hold c cc0_stg4_0 (vstg m ρ c) ∗ hold c cc0_stg5_0 f5)

def bodyPost (f5 : (cc0_stg5_0 : Ref sig .tc).ty.Contents (Elt F)) : sProp 𝕄 :=
  iprop(Φ₁ m ρ c ∗ ow c 0 ∗ hold c cc0_stg0_0 (xstg m ρ c) ∗ hold c cc0_stg1_0 (wqstg m ρ c) ∗ hold c cc0_stg2_0 (wostg m ρ c)
    ∗ hold c cc0_stg3_0 (kstg m ρ c) ∗ hold c cc0_stg4_0 (vstg m ρ c) ∗ hold c cc0_stg5_0 (outAt m ρ c f5))

set_option maxHeartbeats 1600000 in
/-- The body, one stretch after another. -/
theorem sound_body (f5 : (cc0_stg5_0 : Ref sig .tc).ty.Contents (Elt F)) (Kt : PUnit → sProp 𝕄) :
    iprop(bodyPre m ρ K c f5 ∗ (bodyPost m ρ c f5 -∗ Kt ⟨⟩))
      ⊢ wp frame (wpE (defs₀ (F := F)) 𝒱₀ (c : Thread nD τ) none) Set.univ
          (cc0_body xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2) Kt := by
  rw [cc0_body_eq_skeleton]; unfold cc0_body_skel
  unfold bodyPre ghost all3 all6
  iintro ⟨⟨⟨#HR, Hat, ⟨HA0, HA1, HA2, HA3, HA4, HA5⟩, ⟨HB0, HB1, HB2, HB3, HB4, HB5⟩, ⟨Ht0, Ht1, Ht2⟩, HX0, HX1, HX2, HX3, HX4, HX5⟩,
    HcB, ⟨HV0, HV1, HV2, HV3, HV4, HV5⟩, #Hlev, ⟨%f, Hscr⟩, HO, Hg0, Hg1, Hg2, Hg3, Hg4, Hg5⟩, Hk⟩
  ihave Hw := (Entails.of_eq (whole_eq c f)) $$ Hscr
  icases Hw with ⟨S00, S01, S10, S11, S20, S21, S30, S31⟩
  ihave Hp0 := (part_start m ρ c 0 f) $$ S00
  ihave Hp1 := (part_start m ρ c 1 f) $$ S01
  rw [wp_bind]
  iapply (part1_runs m ρ K c) $$ [HcB HO Hat Ht0 S30 S31 Ht1 S20 S21 Ht2 S10 S11 Hg3 Hp0]
  · isplitr; · iexact HR
    isplitr; · iexact Hlev
    isplitl [HcB]; · iexact HcB
    isplitl [HO]; · iexact HO
    isplitl [Hat]; · iexact Hat
    isplitl [Ht0]; · iexact Ht0
    isplitl [S30]; · iexists f; iexact S30
    isplitl [S31]; · iexists f; iexact S31
    isplitl [Ht1]; · iexact Ht1
    isplitl [S20]; · iexists f; iexact S20
    isplitl [S21]; · iexists f; iexact S21
    isplitl [Ht2]; · iexact Ht2
    isplitl [S10]; · iexists f; iexact S10
    isplitl [S11]; · iexists f; iexact S11
    isplitl [Hg3]; · iexact Hg3
    iexact Hp0
  iintro %v4 %v6 %v8 ⟨HO, HzB, ⟨HP0, HP1, HP2⟩, Hg3, Hp0⟩
  try dsimp only []
  unfold barPay
  icases HP0 with ⟨HD0, HD1⟩
  icases HP1 with ⟨HD2, HD3⟩
  icases HP2 with ⟨HD4, HD5⟩
  rw [wp_bind]
  iapply (part2_runs m ρ c v4) $$ [Hg3 Hg4 Hp0]
  · isplitl [Hg3]; · iexact Hg3
    isplitl [Hg4]; · iexact Hg4
    iexact Hp0
  iintro ⟨Hg3, Hg4, Hp0⟩
  try dsimp only []
  ihave Hf := (part_whole m ρ c 0) $$ Hp0
  icases Hf with ⟨HS0, HS2, HS4, HL0⟩
  rw [wp_bind]
  iapply (part3_runs m ρ K c v6 v8) $$ [HO HS0 HD0 HX0 HS2 HD2 HX2]
  · isplitr; · iexact HR
    isplitl [HO]; · iexact HO
    isplitl [HS0]; · iexact HS0
    isplitl [HD0]; · iexact HD0
    isplitl [HX0]; · iexact HX0
    isplitl [HS2]; · iexact HS2
    isplitl [HD2]; · iexact HD2
    iexact HX2
  iintro ⟨HO, HC0, HC2⟩
  try dsimp only []
  rw [wp_bind]
  iapply (part4_runs m ρ K c) $$ [HO HS4 HD4 HX4 Hg3 Hg4 Hp1]
  · isplitr; · iexact HR
    isplitl [HO]; · iexact HO
    isplitl [HS4]; · iexact HS4
    isplitl [HD4]; · iexact HD4
    isplitl [HX4]; · iexact HX4
    isplitl [Hg3]; · iexact Hg3
    isplitl [Hg4]; · iexact Hg4
    iexact Hp1
  iintro ⟨HO, HC4, Hg3, Hg4, Hp1⟩
  try dsimp only []
  rw [wp_bind]
  iapply (part5_runs m ρ K c v4) $$ [HO HD1 HX1 Hg4 Hp1]
  · isplitr; · iexact HR
    isplitl [HO]; · iexact HO
    isplitl [HD1]; · iexact HD1
    isplitl [HX1]; · iexact HX1
    isplitl [Hg4]; · iexact Hg4
    iexact Hp1
  iintro ⟨HO, HC1, Hg4, HS3, HS5, HL1⟩
  try dsimp only []
  rw [wp_bind]
  iapply (part6_runs m ρ K c v6 v8) $$ [HO HS3 HD3 HX3 HS5 HD5 HX5 Hg0 Hg1]
  · isplitr; · iexact HR
    isplitl [HO]; · iexact HO
    isplitl [HS3]; · iexact HS3
    isplitl [HD3]; · iexact HD3
    isplitl [HX3]; · iexact HX3
    isplitl [HS5]; · iexact HS5
    isplitl [HD5]; · iexact HD5
    isplitl [HX5]; · iexact HX5
    isplitl [Hg0]; · iexact Hg0
    iexact Hg1
  iintro ⟨HO, HC3, HC5, Hg0, Hg1⟩
  try dsimp only []
  rw [wp_bind]
  iapply (part7_runs m ρ c) $$ [HL0 Hg0 Hg2]
  · isplitl [HL0]; · iexact HL0
    isplitl [Hg0]; · iexact Hg0
    iexact Hg2
  iintro ⟨HL0, Hg0, Hg2⟩
  try dsimp only []
  rw [wp_bind]
  iapply (part8_runs m ρ c) $$ [HL0]
  · iexact HL0
  iintro HL0
  try dsimp only []
  rw [wp_bind]
  iapply (part9_runs m ρ c) $$ [HL1]
  · iexact HL1
  iintro HL1
  try dsimp only []
  rw [wp_bind]
  iapply (part10_runs m ρ K c v4 v6 v8) $$ [HV0 HO HB0]
  · isplitr; · iexact HR
    isplitl [HV0]; · iexact HV0
    isplitl [HO]; · iexact HO
    iexact HB0
  iintro ⟨HO, HW0, R10⟩
  try dsimp only []
  rw [wp_bind]
  iapply (part11_runs m ρ c) $$ [R10]
  · iexact R10
  iintro R10
  try dsimp only []
  rw [wp_bind]
  iapply (part12_runs m ρ K c v4 v6 v8) $$ [HV1 HO HB1]
  · isplitr; · iexact HR
    isplitl [HV1]; · iexact HV1
    isplitl [HO]; · iexact HO
    iexact HB1
  iintro ⟨HO, HW1, R11⟩
  try dsimp only []
  rw [wp_bind]
  iapply (part13_runs m ρ c) $$ [R11]
  · iexact R11
  iintro R11
  try dsimp only []
  rw [wp_bind]
  iapply (part14_runs m ρ K c v4 v6 v8) $$ [HV4 HO HB4]
  · isplitr; · iexact HR
    isplitl [HV4]; · iexact HV4
    isplitl [HO]; · iexact HO
    iexact HB4
  iintro ⟨HO, HW4, R30⟩
  try dsimp only []
  rw [wp_bind]
  iapply (part15_runs m ρ c v4 v6 v8) $$ [R30]
  · iexact R30
  iintro R30
  try dsimp only []
  rw [wp_bind]
  iapply (part16_runs m ρ K c) $$ [HV5 HO HB5]
  · isplitr; · iexact HR
    isplitl [HV5]; · iexact HV5
    isplitl [HO]; · iexact HO
    iexact HB5
  iintro ⟨HO, HW5, R31⟩
  try dsimp only []
  rw [wp_bind]
  iapply (part17_runs m ρ K c v4 v6 v8) $$ [HV2 HO HB2]
  · isplitr; · iexact HR
    isplitl [HV2]; · iexact HV2
    isplitl [HO]; · iexact HO
    iexact HB2
  iintro ⟨HO, HW2, R20⟩
  try dsimp only []
  rw [wp_bind]
  iapply (part18_runs m ρ c) $$ [R20]
  · iexact R20
  iintro R20
  try dsimp only []
  rw [wp_bind]
  iapply (part19_runs m ρ K c v6 f5) $$ [HV3 HO HB3 Hg5]
  · isplitr; · iexact HR
    isplitl [HV3]; · iexact HV3
    isplitl [HO]; · iexact HO
    isplitl [HB3]; · iexact HB3
    iexact Hg5
  iintro ⟨HO, HW3, R21, Hg5⟩
  try dsimp only []
  rw [wp_bind]
  iapply (part20_runs m ρ c) $$ [R21]
  · iexact R21
  iintro R21
  try dsimp only []
  rw [wp_bind]
  iapply (part21_runs m ρ K c _) $$ [HO HC0 HA0 Hg5]
  · isplitr; · iexact HR
    isplitl [HO]; · iexact HO
    isplitl [HC0]; · iexact HC0
    isplitl [HA0]; · iexact HA0
    iexact Hg5
  iintro ⟨HO, HZ0, HS0, Hg5⟩
  try dsimp only []
  rw [wp_bind]
  iapply (part22_runs m ρ K c) $$ [HO HC2 HA2 HC4 HA4]
  · isplitr; · iexact HR
    isplitl [HO]; · iexact HO
    isplitl [HC2]; · iexact HC2
    isplitl [HA2]; · iexact HA2
    isplitl [HC4]; · iexact HC4
    iexact HA4
  iintro ⟨HO, HZ2, HS2, HZ4, HS4⟩
  try dsimp only []
  rw [wp_bind]
  iapply (part23_runs m ρ K c) $$ [HO HC1 HA1 HC3 HA3 HC5 HA5]
  · isplitr; · iexact HR
    isplitl [HO]; · iexact HO
    isplitl [HC1]; · iexact HC1
    isplitl [HA1]; · iexact HA1
    isplitl [HC3]; · iexact HC3
    isplitl [HA3]; · iexact HA3
    isplitl [HC5]; · iexact HC5
    iexact HA5
  iintro ⟨HO, HZ1, HS1, HZ3, HS3, HZ5, HS5⟩
  try dsimp only []
  ihave S00 := (Entails.of_eq (pts_shares c 0 (full m ρ c)).symm) $$ [HS0 HS2 HS4 HL0]
  · isplitl [HS0 HS2]
    · isplitl [HS0] <;> iassumption
    isplitl [HS4] <;> iassumption
  ihave S01 := (Entails.of_eq (pts_shares c 1 (full m ρ c)).symm) $$ [HS1 HS3 HS5 HL1]
  · isplitl [HS1 HS3]
    · isplitl [HS1] <;> iassumption
    isplitl [HS5] <;> iassumption
  ihave Hscr := (Entails.of_eq (whole_eq c (full m ρ c)).symm) $$ [S00 S01 R10 R11 R20 R21 R30 R31]
  · isplitl [S00]; · iexact S00
    isplitl [S01]; · iexact S01
    isplitl [R10]; · iexact R10
    isplitl [R11]; · iexact R11
    isplitl [R20]; · iexact R20
    isplitl [R21]; · iexact R21
    isplitl [R30] <;> iassumption
  rw [Prog.pure_eq_ret, wp_ret]; imodintro
  iapply Hk
  unfold bodyPost Φ₁ all6
  isplitl [Hscr HZ0 HZ1 HZ2 HZ3 HZ4 HZ5 HW0 HW1 HW2 HW3 HW4 HW5 HzB]
  · isplitl [Hscr]; · iexact Hscr
    isplitl [HZ0 HZ1 HZ2 HZ3 HZ4 HZ5]
    · isplitl [HZ0]; · iexact HZ0
      isplitl [HZ1]; · iexact HZ1
      isplitl [HZ2]; · iexact HZ2
      isplitl [HZ3]; · iexact HZ3
      isplitl [HZ4] <;> iassumption
    isplitl [HW0 HW1 HW2 HW3 HW4 HW5]
    · isplitl [HW0]; · iexact HW0
      isplitl [HW1]; · iexact HW1
      isplitl [HW2]; · iexact HW2
      isplitl [HW3]; · iexact HW3
      isplitl [HW4] <;> iassumption
    iexact HzB
  isplitl [HO]; · iexact HO
  isplitl [Hg0]; · iexact Hg0
  isplitl [Hg1]; · iexact Hg1
  isplitl [Hg2]; · iexact Hg2
  isplitl [Hg3]; · iexact Hg3
  isplitl [Hg4]; · iexact Hg4
  iexact Hg5

end Body

/-! ## The body as the pipeline library wants it -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => kstg m ρ c
    | ⟨4, _⟩ => vstg m ρ c
    | ⟨5, _⟩ => outBlk m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (P : Fin cfg0.W → sProp 𝕄) :
    bigSep Finset.univ P = iprop(P (0 : Fin 6) ∗ P (1 : Fin 6) ∗ P (2 : Fin 6) ∗ P (3 : Fin 6) ∗ P (4 : Fin 6) ∗ P (5 : Fin 6)) := bigSep_W0 P

theorem fetch_in (w : Fin 6) (h : w ≠ 5) (t : Fin cfg0.N) : (cfg0.win w).fetch t = true := by
  rw [show t = t0_0 from fin_N0 t]; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def oblPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def oblPost (c : Dev nD) : sProp 𝕄 :=
  iprop(Φ₁ m ρ c ∗ (dats m ρ 0 c).owesAt () t0_0.succ ∗ stg c cc0_stg0_0 (xstg m ρ c) ∗ stg c cc0_stg1_0 (wqstg m ρ c) ∗ stg c cc0_stg2_0 (wostg m ρ c)
    ∗ stg c cc0_stg3_0 (kstg m ρ c) ∗ stg c cc0_stg4_0 (vstg m ρ c) ∗ stg c cc0_stg5_0 (outBlk m ρ c))

set_option maxRecDepth 4000 in
theorem obl_run (c : Dev nD) :
    oblPre m ρ c ⊢ wp frame (wpE (defs₀ (F := F)) 𝒱₀ (c : Thread nD τ) none) Set.univ
      (cc0_body xM (Memref.isWhole_whole _) wqM (Memref.isWhole_whole _) woM (Memref.isWhole_whole _) kM (Memref.isWhole_whole _) vM (Memref.isWhole_whole _)
            oM (Memref.isWhole_whole _) scM (Memref.isWhole_whole _) cc0_scratch1 cc0_scratch2) (fun _ => oblPost m ρ c) := by
  unfold oblPre Φ₀ start
  iintro ⟨⟨⟨⟨%K, Hg⟩, HcB, HcV, Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = xstg m ρ c := by rw [hg0]; unfold Dat.before; rw [if_pos (fetch_in 0 (by decide) t0_0)]; rfl
  have h1 : g1 = wqstg m ρ c := by rw [hg1]; unfold Dat.before; rw [if_pos (fetch_in 1 (by decide) t0_0)]; rfl
  have h2 : g2 = wostg m ρ c := by rw [hg2]; unfold Dat.before; rw [if_pos (fetch_in 2 (by decide) t0_0)]; rfl
  have h3 : g3 = kstg m ρ c := by rw [hg3]; unfold Dat.before; rw [if_pos (fetch_in 3 (by decide) t0_0)]; rfl
  have h4 : g4 = vstg m ρ c := by rw [hg4]; unfold Dat.before; rw [if_pos (fetch_in 4 (by decide) t0_0)]; rfl
  subst h0 h1 h2 h3 h4
  unfold Dat.owesAt Pipeline.owesWithin
  icases Ho with ⟨%W, %hW, HO⟩
  iapply (sound_body m ρ K c g5 fun _ => oblPost m ρ c)
  isplitr []
  · unfold bodyPre
    isplitl [Hg]; · iexact Hg
    isplitl [HcB]; · iexact HcB
    isplitl [HcV]; · iexact HcV
    isplitl [Hlev]; · iexact Hlev
    isplitl [Hscr]; · iexact Hscr
    isplitl [HO]; · unfold ow; iexists W; iexact HO
    isplitl [H0]; · iexact H0
    isplitl [H1]; · iexact H1
    isplitl [H2]; · iexact H2
    isplitl [H3]; · iexact H3
    isplitl [H4]; · iexact H4
    iexact H5
  · rw [show bodyPost m ρ c g5 = _ from by unfold bodyPost ow; rw [outAt_eq]]
    iintro ⟨HΦ, ⟨%W', HO⟩, H0, H1, H2, H3, H4, H5⟩
    unfold oblPost Dat.owesAt Pipeline.owesWithin
    isplitl [HΦ]; · iexact HΦ
    isplitl [HO]
    · iexists W'
      isplitr; · ipureintro; exact fun _ _ => Or.inl trivial
      iexact HO
    isplitl [H0]; · iexists _; isplitr; · (ipureintro; rfl)
                    iexact H0
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    isplitl [H4]; · iexists _; isplitr; · (ipureintro; rfl)
                    iexact H4
    iexists _; isplitr; · (ipureintro; rfl)
    iexact H5

set_option maxRecDepth 4000 in
/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  exact obl_run m ρ c

end Cert.KernelIdealProof

end
-- ==== Proof.KernelIdeal.Launch.lean ====
/-
# The launch

Every device starts its body at once; the thirteen cells of each device are opened together, so that each device holds the
invariants of all of them and the tokens of the duties it pays. `run_main` is the run of @main from any memory.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem sep_assoc_eq (P Q R : sProp 𝕄) : iprop((P ∗ Q) ∗ R) = iprop(P ∗ Q ∗ R) := equiv_iff.mp ⟨BI.sep_assoc, BI.sep_assoc'⟩

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | k) (_ | k') h
  · rfl
  · exact absurd h (fun h => by cases h)
  · exact absurd h (fun h => by cases h)
  · refine congrArg some (Fin.ext ?_)
    have h1 : (dS k).val = (dS k').val := congrArg (fun s : SemLoc sig => match s with | .dma q => q.val | .reg _ => 0) h
    have h2 : 6 + k.val = 6 + k'.val := h1
    omega

theorem kcell_injective : Function.Injective (kcell : Dev nD × Option (Fin 12) → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A device's own cells' duty tokens as minted: its barrier's three, and one of each of its twelve transfer cells. -/
abbrev tokOf (cj : Dev nD × (Fin 3 ⊕ Fin 12)) : GSem nD τ sig × ℕ × Fin 3 := match cj.2 with
  | .inl i => (kcell (cj.1, none), 0, i)
  | .inr k => (kcell (cj.1, some k), 0, 0)
theorem tokOf_injective : Function.Injective (tokOf : Dev nD × (Fin 3 ⊕ Fin 12) → GSem nD τ sig × ℕ × Fin 3) := by
  rintro ⟨c, j⟩ ⟨c', j'⟩ h
  have hk := congrArg (fun x : GSem nD τ sig × ℕ × Fin 3 => x.1) h
  have hd := congrArg (fun x : GSem nD τ sig × ℕ × Fin 3 => x.2.2) h
  rcases j with i | k <;> rcases j' with i' | k'
  · have h1 := kcell_injective hk
    have h2 : i = i' := hd
    have e1 : c = c' := (Prod.mk.inj h1).1
    rw [e1, h2]
  · exact absurd (Prod.mk.inj (kcell_injective hk)).2 (fun h => by cases h)
  · exact absurd (Prod.mk.inj (kcell_injective hk)).2 (fun h => by cases h)
  · have h1 := Prod.mk.inj (kcell_injective hk)
    have e1 : c = c' := h1.1
    have e2 : k = k' := Option.some.inj h1.2
    rw [e1, e2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun j : Fin 3 ⊕ Fin 12 => dutyTok ER (tokOf (c, j)).1 (tokOf (c, j)).2.1 (tokOf (c, j)).2.2

/-- What the launch element deals device `c`. -/
def G (c : Dev nD) : sProp 𝕄 :=
  iprop((bigSep Finset.univ fun k : Option (Fin 12) => roundState ER (ringRd m ρ) (kcell (c, k)) 0)
    ∗ (bigSep Finset.univ fun k : Option (Fin 12) => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (P : GSem nD τ sig → sProp 𝕄) : bigSep ringCells P = bigSep Finset.univ fun c : Dev nD => bigSep Finset.univ fun k : Option (Fin 12) => P (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Thirteen things as one, six and six -/

theorem bigSep_cells (P : Option (Fin 12) → sProp 𝕄) :
    bigSep Finset.univ P = iprop(P none ∗ (all6 fun s => P (some (sI s))) ∗ all6 fun s => P (some (rI s))) := by
  rw [bigSep_univ_eq_bigSepL [none, some (sI 0), some (sI 1), some (sI 2), some (sI 3), some (sI 4), some (sI 5),
    some (rI 0), some (rI 1), some (rI 2), some (rI 3), some (rI 4), some (rI 5)] (by decide) (by decide)]
  unfold all6
  show iprop(P none ∗ P (some (sI 0)) ∗ P (some (sI 1)) ∗ P (some (sI 2)) ∗ P (some (sI 3)) ∗ P (some (sI 4)) ∗ P (some (sI 5))
    ∗ P (some (rI 0)) ∗ P (some (rI 1)) ∗ P (some (rI 2)) ∗ P (some (rI 3)) ∗ P (some (rI 4)) ∗ P (some (rI 5))) = _
  simp only [sep_assoc_eq]

/-- The twelve DMA semaphores are the kernel's own; -/
theorem ownSems0_eq (c : Dev nD) : (Pipeline.ownSems0 (Ix := Unit) (Name := ℕ) (U := UU) (Lvl := ℕ) (Val := Elt F) (τ := τ) osem c : sProp 𝕄)
    = iprop((all6 fun s => semVal (sendCell c s) 0) ∗ all6 fun s => semVal (recvCell c s) 0) := by
  rw [Pipeline.ownSems0_eq_of_list c osem [sI 0, sI 1, sI 2, sI 3, sI 4, sI 5, rI 0, rI 1, rI 2, rI 3, rI 4, rI 5] (by decide) (by decide)]
  unfold all6
  show iprop(semVal (sendCell c 0) 0 ∗ semVal (sendCell c 1) 0 ∗ semVal (sendCell c 2) 0 ∗ semVal (sendCell c 3) 0 ∗ semVal (sendCell c 4) 0 ∗ semVal (sendCell c 5) 0
    ∗ semVal (recvCell c 0) 0 ∗ semVal (recvCell c 1) 0 ∗ semVal (recvCell c 2) 0 ∗ semVal (recvCell c 3) 0 ∗ semVal (recvCell c 4) 0 ∗ semVal (recvCell c 5) 0) = _
  simp only [sep_assoc_eq]
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 12) => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 12) => semVal (kcell (c, k)) 0) ∗ bigSep Finset.univ fun k : Option (Fin 12) => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 := iprop((all3 fun i => dutyTok ER (barCell (peer c i)) 0 (rev i)) ∗ all6 fun s => xtok c s)
def linear (c : Dev nD) : sProp 𝕄 :=
  iprop((bigSep Finset.univ fun k : Option (Fin 12) => atPos ER (kcell (c, k)) 0 ∅ 0) ∗ payToks c)

theorem ghost_intro (K : Dev nD × Option (Fin 12) → ℕ) (c : Dev nD) : iprop(records m ρ K ∗ linear c) ⊢ G' m ρ c := by
  unfold linear payToks G' ghost
  rw [bigSep_cells]
  iintro ⟨#HR, ⟨HaB, HaS, HaV⟩, Ht, Hx⟩
  iexists K
  isplitr; · iexact HR
  isplitl [HaB]; · iexact HaB
  isplitl [HaS]; · iexact HaS
  isplitl [HaV]; · iexact HaV
  isplitl [Ht]; · iexact Ht
  iexact Hx

theorem all6_sep (P Q : Fin 6 → sProp 𝕄) : (all6 fun s => iprop(P s ∗ Q s)) = iprop(all6 P ∗ all6 Q) := by
  rw [← bigSep_all6, ← bigSep_all6 P, ← bigSep_all6 Q, bigSep_sep']

theorem bigSep_swap {I J : Type} [Fintype I] [Fintype J] [DecidableEq I] [DecidableEq J] (P : I → J → sProp 𝕄) :
    (bigSep Finset.univ fun i => bigSep Finset.univ fun j => P i j) = bigSep Finset.univ fun j => bigSep Finset.univ fun i => P i j := by
  rw [← bigSep_univ_prod (fun ij : I × J => P ij.1 ij.2), ← bigSep_univ_prod (fun ji : J × I => P ji.2 ji.1),
    bigSep_univ_equiv (Equiv.prodComm J I) (fun ij : I × J => P ij.1 ij.2)]
  rfl

/-- The tokens dealt around the circle: a barrier's duty `rev i` goes to the device whose peer `i` it is, a receive cell's duty
    to its source. -/
theorem toks_around : (bigSep Finset.univ fun c : Dev nD => (toks c : sProp 𝕄)) ⊢ bigSep Finset.univ fun c : Dev nD => payToks c := by
  have h1 (c : Dev nD) : (toks c : sProp 𝕄) = iprop((bigSep Finset.univ fun i : Fin 3 => dutyTok ER (barCell c) 0 i)
      ∗ (bigSep Finset.univ fun s : Fin 6 => dutyTok ER (sendCell c s) 0 0) ∗ bigSep Finset.univ fun s : Fin 6 => dutyTok ER (recvCell c s) 0 0) := by
    unfold toks
    rw [bigSep_univ_eq_bigSepL [.inl 0, .inl 1, .inl 2, .inr (sI 0), .inr (sI 1), .inr (sI 2), .inr (sI 3), .inr (sI 4), .inr (sI 5),
      .inr (rI 0), .inr (rI 1), .inr (rI 2), .inr (rI 3), .inr (rI 4), .inr (rI 5)] (by decide) (by decide), bigSep_all3, bigSep_all6, bigSep_all6]
    unfold all3 all6
    show iprop(dutyTok ER (barCell c) 0 0 ∗ dutyTok ER (barCell c) 0 1 ∗ dutyTok ER (barCell c) 0 2
      ∗ dutyTok ER (sendCell c 0) 0 0 ∗ dutyTok ER (sendCell c 1) 0 0 ∗ dutyTok ER (sendCell c 2) 0 0 ∗ dutyTok ER (sendCell c 3) 0 0 ∗ dutyTok ER (sendCell c 4) 0 0 ∗ dutyTok ER (sendCell c 5) 0 0
      ∗ dutyTok ER (recvCell c 0) 0 0 ∗ dutyTok ER (recvCell c 1) 0 0 ∗ dutyTok ER (recvCell c 2) 0 0 ∗ dutyTok ER (recvCell c 3) 0 0 ∗ dutyTok ER (recvCell c 4) 0 0 ∗ dutyTok ER (recvCell c 5) 0 0) = _
    simp only [sep_assoc_eq]
  have h2 (c : Dev nD) : (payToks c : sProp 𝕄) = iprop((bigSep Finset.univ fun i : Fin 3 => dutyTok ER (barCell (peer c i)) 0 (rev i))
      ∗ (bigSep Finset.univ fun s : Fin 6 => dutyTok ER (sendCell c s) 0 0) ∗ bigSep Finset.univ fun s : Fin 6 => dutyTok ER (recvCell (peer c (di s)) s) 0 0) := by
    unfold payToks xtok
    rw [all6_sep, bigSep_all3, bigSep_all6, bigSep_all6]
  refine Entails.of_eq ?_
  rw [bigSep_congr (s := Finset.univ) (fun (c : Dev nD) _ => h1 c), bigSep_congr (s := Finset.univ) (fun (c : Dev nD) _ => h2 c)]
  simp only [bigSep_sep']
  refine congrArg₂ _ ?_ (congrArg₂ _ rfl ?_)
  · rw [bigSep_swap, bigSep_swap (fun (c : Dev nD) (i : Fin 3) => (dutyTok ER (barCell (peer c i)) 0 (rev i) : sProp 𝕄)),
      bigSep_univ_equiv (⟨rev, rev, rev_rev, rev_rev⟩ : Fin 3 ≃ Fin 3)]
    refine bigSep_congr fun i _ => ?_
    exact bigSep_univ_equiv (ring i) (fun c : Dev nD => (dutyTok ER (barCell c) 0 (rev i) : sProp 𝕄))
  · rw [bigSep_swap, bigSep_swap (fun (c : Dev nD) (s : Fin 6) => (dutyTok ER (recvCell (peer c (di s)) s) 0 0 : sProp 𝕄))]
    refine bigSep_congr fun s _ => ?_
    exact bigSep_univ_equiv (ring (di s)) (fun c : Dev nD => (dutyTok ER (recvCell c s) 0 0 : sProp 𝕄))

theorem bigSep_with_persistent {I : Type} [DecidableEq I] {S : Finset I} {R : sProp 𝕄} [BI.Persistent R] {P Q : I → sProp 𝕄}
    (h : ∀ i ∈ S, iprop(R ∗ P i) ⊢ Q i) : iprop(R ∗ bigSep S P) ⊢ bigSep S Q :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 12) => iprop(∃ κ : ℕ, cellInv ER (ringRd m ρ) κ (kcell ck))),
    bigSep_congr (s := Finset.univ) (fun (c : Dev nD) _ => bigSep_sep' Finset.univ (fun k : Option (Fin 12) => (atPos ER (kcell (c, k)) 0 ∅ 0 : sProp 𝕄)) (fun k => reached ER (kcell (c, k)) 0)),
    bigSep_sep', ← bigSep_univ_prod (fun ck : Dev nD × Option (Fin 12) => (reached ER (kcell ck) 0 : sProp 𝕄))]
  iintro ⟨HI, ⟨Hat, #HR⟩, Htok⟩
  ihave HK := (BI.bigSep_exists_pi Finset.univ (fun (ck : Dev nD × Option (Fin 12)) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Option (Fin 12) => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_inj {a b : Dev nD} {s t : Fin 6} (h : recvCell a s = recvCell b t) : a = b ∧ s = t := by
  refine ⟨Fin.ext (congrArg (fun g : GSem nD τ sig => g.1.1.val) h), Fin.ext ?_⟩
  have h1 : (recvS s).val = (recvS t).val := congrArg (fun g : GSem nD τ sig => match g.2 with | .dma q => q.val | .reg _ => 0) h
  have h2 : 6 + (6 + s.val) = 6 + (6 + t.val) := h1
  omega

theorem tally_bar (a c : Dev nD) : (tallyAt (barCell a) () 1 : CellTallies nD τ sig Unit) (barCell c) () = if a = c then 1 else 0 := by
  rw [tallyAt_apply]
  by_cases h : a = c
  · subst h; rw [if_pos ⟨rfl, rfl⟩, if_pos rfl]
  · rw [if_neg (fun h' => h (bar_eq_iff.mp h'.1).symm), if_neg h]
theorem tally_recv (a c : Dev nD) (s t : Fin 6) :
    (tallyAt (recvCell a t) () N : CellTallies nD τ sig Unit) (recvCell c s) () = if t = s then (if a = c then N else 0) else 0 := by
  rw [tallyAt_apply]
  by_cases h : recvCell c s = recvCell a t
  · obtain ⟨rfl, rfl⟩ := recv_inj h
    rw [if_pos ⟨rfl, rfl⟩, if_pos rfl, if_pos rfl]
  · rw [if_neg (fun h' => h h'.1)]
    by_cases h1 : t = s
    · subst h1; rw [if_pos rfl, if_neg (fun h2 => h (by rw [h2]))]
    · rw [if_neg h1]
theorem tally_recv_bar (a c : Dev nD) (t : Fin 6) : (tallyAt (recvCell a t) () N : CellTallies nD τ sig Unit) (barCell c) () = 0 := by
  rw [tallyAt_apply, if_neg (fun h => by have := congrArg Prod.snd h.1; cases this)]
theorem tally_bar_recv (a c : Dev nD) (s : Fin 6) : (tallyAt (barCell a) () 1 : CellTallies nD τ sig Unit) (recvCell c s) () = 0 := by
  rw [tallyAt_apply, if_neg (fun h => by have := congrArg Prod.snd h.1; cases this)]

theorem owe_bar (d c : Dev nD) (l : List (Fin 6)) : owe d l (barCell c) () = 0 := by
  induction l with
  | nil => rfl
  | cons s l ih => show (owe d l + _) (barCell c) () = 0; rw [Pi.add_apply, Finsupp.add_apply, ih, tally_recv_bar]

theorem owe_recv (d c : Dev nD) (s : Fin 6) (l : List (Fin 6)) :
    owe d l (recvCell c s) () = (l.map fun t => if t = s then (if peer d (di t) = c then N else 0) else 0).sum := by
  induction l with
  | nil => rfl
  | cons t l ih =>
    show (owe d l + _) (recvCell c s) () = _
    rw [Pi.add_apply, Finsupp.add_apply, ih, tally_recv, List.map_cons, List.sum_cons, Nat.add_comm]

/-- What device `d` owes device `c`'s barrier cell: a unit for each of `d`'s peers that is `c`. -/
theorem owed_bar (d c : Dev nD) : O₀ d (barCell c) () = ((if peer d 2 = c then 1 else 0) + (if peer d 1 = c then 1 else 0)) + (if peer d 0 = c then 1 else 0) := by
  unfold O₀ O₁ O₂
  simp only [Pi.add_apply, Finsupp.add_apply, owe_bar, tally_bar, Nat.zero_add]

theorem owed_recv (d c : Dev nD) (s : Fin 6) : O₀ d (recvCell c s) () = if peer d (di s) = c then N else 0 := by
  unfold O₀ O₁ O₂
  simp only [Pi.add_apply, Finsupp.add_apply, tally_bar_recv, Nat.add_zero]
  rw [owe_recv]
  have hs : (order.map fun t => if t = s then (if peer d (di t) = c then N else 0) else 0) = order.map fun t => if t = s then (if peer d (di s) = c then N else 0) else 0 :=
    List.map_congr_left fun t _ => by by_cases h : t = s <;> simp [h]
  rw [hs]
  generalize (if peer d (di s) = c then N else 0) = n
  revert s; intro s hs; clear hs
  fin_cases s <;> simp [order]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (s : Fin 6) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s]
  have h : ∀ d : Dev nD, (peer d (di s) = c) = (d = peer c (rev (di s))) := fun d => propext
    ⟨fun h => by rw [← h, peer_rev], fun h => by rw [h, peer_rev']⟩
  simp only [h]
  rw [Finset.sum_ite_eq' Finset.univ (peer c (rev (di s))) fun _ => N, if_pos (Finset.mem_univ _)]

/-- The receive cells among a device's semaphores. -/
def recvLoc : Fin 6 ↪ SemLoc sig := ⟨fun s => .dma (recvS s), fun s t h => by
  have h1 : (recvS s).val = (recvS t).val := congrArg (fun g : SemLoc sig => match g with | .dma q => q.val | .reg _ => 0) h
  have h2 : 6 + (6 + s.val) = 6 + (6 + t.val) := h1
  exact Fin.ext (by omega)⟩

theorem creds (c : Dev nD) :
    (Pipeline.launchCred O₀ c : sProp 𝕄) ⊢ iprop(cred (tallyAt (barCell c) () 3) ∗ all6 fun s => cred (tallyAt (recvCell c s) () N)) := by
  unfold Pipeline.launchCred
  rw [bigSep_univ_at _ (SemLoc.reg barS), launch_bar]
  refine sep_mono_right ?_
  rw [← bigSep_all6]
  refine BI.Entails.trans (bigSep_subset (t := Finset.univ.map recvLoc) (fun x hx => ?_)) ?_
  · obtain ⟨s, -, rfl⟩ := Finset.mem_map.mp hx
    exact Finset.mem_erase.mpr ⟨dma_ne_bar _, Finset.mem_univ _⟩
  · rw [bigSep_map]
    exact Entails.of_eq (bigSep_congr fun s _ => congrArg _ (launch_recv c s))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzS, HzV, HzB⟩
  isplitl [HzB]; · iexact HzB
  isplitl [HzS HzV]
  · isplitl [HzS]; · iexact HzS
    iexact HzV
  iexists (full m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of four devices, for any float values, from any memory with zero counters: every weakly fair execution of
    @main terminates, and every final state has each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The final arrays -/

/-- The arguments end as they began. -/
theorem finalA_in (c : Dev nD) (w : Fin 6) (h : w ≠ 5) : finalA m ρ c w = (s₀ m ρ).mem ((cfg0.win w).arr.view.loc (c : Thread nD τ)) := by
  exact (dats m ρ 0 c).arrAt_in w (by revert w; decide) _

end Cert.KernelIdealProof

end
-- ==== Proof.Frames.lean ====
/-
# The frames, and the one rewrite

Each kernel's frame is its run (Proof/Kernel/Launch.lean, Proof/KernelIdeal/Launch.lean) with the values dropped; the
reference's is its generated run. The one rewrite names the scale `1 / (8 log 2)`.
-/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Claims

open Idealize.ShloMosaic Idealize.ShloMosaic.TcCoe Idealize.SL.Sem

theorem frame_p : Cert.quiescent_Kernel := fun m ρ _ =>
  (θ_run Cert.Kernel.defs _ _).mono (fun r h => ⟨fun c =>
      ⟨(h.1 c (0 : Fin 6)).trans (Cert.KernelProof.finalA_in m ρ c 0 (by decide)), (h.1 c (1 : Fin 6)).trans (Cert.KernelProof.finalA_in m ρ c 1 (by decide)),
        (h.1 c (3 : Fin 6)).trans (Cert.KernelProof.finalA_in m ρ c 3 (by decide)), (h.1 c (4 : Fin 6)).trans (Cert.KernelProof.finalA_in m ρ c 4 (by decide)),
        (h.1 c (2 : Fin 6)).trans (Cert.KernelProof.finalA_in m ρ c 2 (by decide))⟩, h.2⟩)
    (Cert.KernelProof.run_main (F := Bits) m ρ)

/-- The idealized kernel's run, its arguments unchanged and its result what the last window's array ends at. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_v1) = Cert.KernelIdealProof.finalA m ρ c (5 : Fin 6)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨fun c =>
      ⟨h.1 c (5 : Fin 6), (h.1 c (0 : Fin 6)).trans (Cert.KernelIdealProof.finalA_in m ρ c 0 (by decide)), (h.1 c (1 : Fin 6)).trans (Cert.KernelIdealProof.finalA_in m ρ c 1 (by decide)),
        (h.1 c (3 : Fin 6)).trans (Cert.KernelIdealProof.finalA_in m ρ c 3 (by decide)), (h.1 c (4 : Fin 6)).trans (Cert.KernelIdealProof.finalA_in m ρ c 4 (by decide)),
        (h.1 c (2 : Fin 6)).trans (Cert.KernelIdealProof.finalA_in m ρ c 2 (by decide))⟩, h.2⟩)
    (Cert.KernelIdealProof.run_main (F := Ideal) m ρ)

theorem frame_pi : Cert.quiescent_KernelIdeal := fun m ρ _ =>
  (θ_run Cert.KernelIdeal.defs _ _).mono (fun r h => ⟨fun c => (h.1 c).2, h.2⟩) (run_ideal m ρ)

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The table gives `"scale"` the value `1 / (8 log 2)`, and the printed constant is that value. -/
theorem preserves : Cert.preserves_Kernel_KernelIdeal :=
  IdealRules.named_const.statement Cert.KernelIdeal.κ "scale" .f32 0x3E38AA3B#32 (((8 * (Real.log 2))⁻¹ : ℝ) : EReal) rfl

end Cert.Claims

end
-- ==== Proof.KernelIdeal.Blocks.lean ====
/-
# The body's running softmax, as four equal steps per head group

The body names its values one stretch of operations at a time. Here they are one state (`St`: maximum, sum of weights,
weighted values of the 1024 rows of a batch's head group), one step of it per block of 512 keys (`step`), and one way to
finish (`finish`); every value the body hands on is a component of a state.
-/
module

public import proofs.«01_k».proof.Proof.KernelIdeal.Values

@[expose] public section

noncomputable section

namespace Cert.KernelIdealProof

open Cert.KernelIdeal Cert.KernelIdeal.Gen
open Idealize.ShloMosaic
open Idealize.ShloMosaic.TcCoe

variable {F : FTy → Type} [FloatOps F] [Named F]

/-- A staged block of keys or values as a matrix: one key per column. -/
def blkOf (w : Vec F S1x1x1x1x64x512 .bf16) : FVec F S64x512 .bf16 :=
  shapeCast S64x512 w shapeCasts_S1x1x1x1x64x512_S64x512

def bS (q : FVec F S1024x64 .bf16) (k : FVec F S64x512 .bf16) : FVec F S1024x512 .f32 :=
  matmul dot_S1024x64_S64x512_S1024x512_1_0_0_1_n_n none q k (constant S1024x512 .f32 0x00000000#32)

def bM (q : FVec F S1024x64 .bf16) (m : FVec F S1024x1 .f32) (k : FVec F S64x512 .bf16) : FVec F S1024x1 .f32 :=
  maximumf m (shapeCast S1024x1 (multiReduction .maximumf [1] S1024 (bS q k) 0xFF800000#32 reduces_S1024x512_S1024 (.inl rfl) rfl)
    shapeCasts_S1024_S1024x1)

def bA (q : FVec F S1024x64 .bf16) (m : FVec F S1024x1 .f32) (k : FVec F S64x512 .bf16) : FVec F S1024x1 .f32 :=
  exp2 (subf m (bM q m k))

def bP (q : FVec F S1024x64 .bf16) (m : FVec F S1024x1 .f32) (k : FVec F S64x512 .bf16) : FVec F S1024x512 .bf16 :=
  exp2 (truncf .bf16 (subf (bS q k) (broadcastTo S1024x512 (bM q m k) broadcasts_S1024x1_S1024x512)) bitsLt_bf16_f32)

def bL (q : FVec F S1024x64 .bf16) (m l : FVec F S1024x1 .f32) (k : FVec F S64x512 .bf16) : FVec F S1024x1 .f32 :=
  addf (mulf l (bA q m k)) (shapeCast S1024x1
    (multiReduction .add [1] S1024 (extf .f32 (bP q m k) bitsLt_bf16_f32) 0x00000000#32 reduces_S1024x512_S1024 (.inl rfl) rfl)
    shapeCasts_S1024_S1024x1)

def bO (q : FVec F S1024x64 .bf16) (m : FVec F S1024x1 .f32) (o : FVec F S1024x64 .f32) (k v : FVec F S64x512 .bf16) :
    FVec F S1024x64 .f32 :=
  addf (mulf o (broadcastTo S1024x64 (bA q m k) broadcasts_S1024x1_S1024x64))
    (matmul dot_S1024x512_S64x512_S1024x64_1_1_0_0_n_n none (bP q m k) v (constant S1024x64 .f32 0x00000000#32))

/-- What is kept of a head group between two blocks of keys. -/
structure St (F : FTy → Type) where
  m : FVec F S1024x1 .f32
  l : FVec F S1024x1 .f32
  o : FVec F S1024x64 .f32

def St.init : St F :=
  ⟨broadcast S1024x1 (Scalar.ofBits .f32 0xF149F2CA#32), broadcast S1024x1 (Scalar.ofBits .f32 0x00000000#32),
    broadcast S1024x64 (Scalar.ofBits .f32 0x00000000#32)⟩

def step (q : FVec F S1024x64 .bf16) (wk wv : Vec F S1x1x1x1x64x512 .bf16) (s : St F) : St F :=
  ⟨bM q s.m (blkOf wk), bL q s.m s.l (blkOf wk), bO q s.m s.o (blkOf wk) (blkOf wv)⟩

/-- A head group's quotient, its four heads set side by side: 256 rows of 4 × 64 columns. -/
def heads (s : St F) : FVec F S256x256 .bf16 :=
  shapeCast S256x256 (transpose S256x4x64 [1, 0, 2] (shapeCast S4x256x64
    (truncf .bf16 (divf s.o (broadcastTo S1024x64 s.l broadcasts_S1024x1_S1024x64)) bitsLt_bf16_f32)
    shapeCasts_S1024x64_S4x256x64) transposes_S4x256x64_p1_0_2_S256x4x64) shapeCasts_S256x4x64_S256x256

/-- The end: both groups' heads side by side, times the output weights. -/
def finish (wo : FVec F S512x768 .bf16) (s₀ s₁ : St F) : FVec F S1x256x768 .f32 :=
  shapeCast S1x256x768 (matmul dot_S256x512_S512x768_S256x768_1_0_0_1_n_n none
    (concatenate S256x512 1 [⟨S256x256, heads s₀⟩, ⟨S256x256, heads s₁⟩] concatenates_S256x256_S256x256_S256x512_d1) wo
    (constant S256x768 .f32 0x00000000#32)) shapeCasts_S256x768_S1x256x768

variable (m : (ℓ : Loc nD τ sig) → Buf (Elt F) ℓ) (ρ : Dev nD → PrngReg)

/-- The queries of batch `b`'s head group `kh`, scaled: four heads of 256 rows. -/
def qv (c : Dev nD) (b : Fin 2) : Fin 2 → FVec F S1024x64 .bf16
  | 0 => k0_pay16 (val125 m ρ c) (xread m ρ c b)
  | 1 => k0_pay17 (val125 m ρ c) (xread m ρ c b)

/-- The state after the first, second, third and fourth block of keys. -/
def st1 (c : Dev nD) (b kh : Fin 2) : St F := step (qv m ρ c b kh) (slab m ρ (src c 0) b 0 kh) (slab m ρ (src c 0) b 1 kh) St.init
def st2 (c : Dev nD) (b kh : Fin 2) : St F := step (qv m ρ c b kh) (slab m ρ (src c 1) b 0 kh) (slab m ρ (src c 1) b 1 kh) (st1 m ρ c b kh)
def st3 (c : Dev nD) (b kh : Fin 2) : St F := step (qv m ρ c b kh) (slab m ρ (src c 3) b 0 kh) (slab m ρ (src c 3) b 1 kh) (st2 m ρ c b kh)
def st4 (c : Dev nD) (b kh : Fin 2) : St F := step (qv m ρ c b kh) (slab m ρ (src c 2) b 0 kh) (slab m ρ (src c 2) b 1 kh) (st3 m ρ c b kh)

theorem val167_eq (c : Dev nD) : val167 m ρ c = (st1 m ρ c 0 0).m := rfl
theorem val178_eq (c : Dev nD) : val178 m ρ c = (st1 m ρ c 0 0).l := rfl
theorem val182_eq (c : Dev nD) : val182 m ρ c = (st1 m ρ c 0 0).o := rfl
theorem val267_eq (c : Dev nD) : val267 m ρ c = (st2 m ρ c 0 0).m := by
  show _ = (bM (qv m ρ c 0 0) (st1 m ρ c 0 0).m (blkOf (slab m ρ (src c 1) 0 0 0)))
  rw [← val167_eq]; rfl
theorem val278_eq (c : Dev nD) : val278 m ρ c = (st2 m ρ c 0 0).l := by
  show _ = (bL (qv m ρ c 0 0) (st1 m ρ c 0 0).m (st1 m ρ c 0 0).l (blkOf (slab m ρ (src c 1) 0 0 0)))
  rw [← val167_eq, ← val178_eq]; rfl
theorem val282_eq (c : Dev nD) : val282 m ρ c = (st2 m ρ c 0 0).o := by
  show _ = (bO (qv m ρ c 0 0) (st1 m ρ c 0 0).m (st1 m ρ c 0 0).o (blkOf (slab m ρ (src c 1) 0 0 0)) (blkOf (slab m ρ (src c 1) 0 1 0)))
  rw [← val167_eq, ← val182_eq]; rfl
theorem val375_eq (c : Dev nD) : val375 m ρ c = (st3 m ρ c 0 0).m := by
  show _ = (bM (qv m ρ c 0 0) (st2 m ρ c 0 0).m (blkOf (slab m ρ (src c 3) 0 0 0)))
  rw [← val267_eq]; rfl
theorem val386_eq (c : Dev nD) : val386 m ρ c = (st3 m ρ c 0 0).l := by
  show _ = (bL (qv m ρ c 0 0) (st2 m ρ c 0 0).m (st2 m ρ c 0 0).l (blkOf (slab m ρ (src c 3) 0 0 0)))
  rw [← val267_eq, ← val278_eq]; rfl
theorem val390_eq (c : Dev nD) : val390 m ρ c = (st3 m ρ c 0 0).o := by
  show _ = (bO (qv m ρ c 0 0) (st2 m ρ c 0 0).m (st2 m ρ c 0 0).o (blkOf (slab m ρ (src c 3) 0 0 0)) (blkOf (slab m ρ (src c 3) 0 1 0)))
  rw [← val267_eq, ← val282_eq]; rfl
theorem val494_eq (c : Dev nD) : val494 m ρ c = (st4 m ρ c 0 0).l := by
  show _ = (bL (qv m ρ c 0 0) (st3 m ρ c 0 0).m (st3 m ρ c 0 0).l (blkOf (slab m ρ (src c 2) 0 0 0)))
  rw [← val375_eq, ← val386_eq]; rfl
theorem val498_eq (c : Dev nD) : val498 m ρ c = (st4 m ρ c 0 0).o := by
  show _ = (bO (qv m ρ c 0 0) (st3 m ρ c 0 0).m (st3 m ρ c 0 0).o (blkOf (slab m ρ (src c 2) 0 0 0)) (blkOf (slab m ρ (src c 2) 0 1 0)))
  rw [← val375_eq, ← val390_eq]; rfl
theorem val190_eq (c : Dev nD) : val190 m ρ c = (st1 m ρ c 0 1).m := rfl
theorem val201_eq (c : Dev nD) : val201 m ρ c = (st1 m ρ c 0 1).l := rfl
theorem val205_eq (c : Dev nD) : val205 m ρ c = (st1 m ρ c 0 1).o := rfl
theorem val290_eq (c : Dev nD) : val290 m ρ c = (st2 m ρ c 0 1).m := by
  show _ = (bM (qv m ρ c 0 1) (st1 m ρ c 0 1).m (blkOf (slab m ρ (src c 1) 0 0 1)))
  rw [← val190_eq]; rfl
theorem val301_eq (c : Dev nD) : val301 m ρ c = (st2 m ρ c 0 1).l := by
  show _ = (bL (qv m ρ c 0 1) (st1 m ρ c 0 1).m (st1 m ρ c 0 1).l (blkOf (slab m ρ (src c 1) 0 0 1)))
  rw [← val190_eq, ← val201_eq]; rfl
theorem val305_eq (c : Dev nD) : val305 m ρ c = (st2 m ρ c 0 1).o := by
  show _ = (bO (qv m ρ c 0 1) (st1 m ρ c 0 1).m (st1 m ρ c 0 1).o (blkOf (slab m ρ (src c 1) 0 0 1)) (blkOf (slab m ρ (src c 1) 0 1 1)))
  rw [← val190_eq, ← val205_eq]; rfl
theorem val398_eq (c : Dev nD) : val398 m ρ c = (st3 m ρ c 0 1).m := by
  show _ = (bM (qv m ρ c 0 1) (st2 m ρ c 0 1).m (blkOf (slab m ρ (src c 3) 0 0 1)))
  rw [← val290_eq]; rfl
theorem val409_eq (c : Dev nD) : val409 m ρ c = (st3 m ρ c 0 1).l := by
  show _ = (bL (qv m ρ c 0 1) (st2 m ρ c 0 1).m (st2 m ρ c 0 1).l (blkOf (slab m ρ (src c 3) 0 0 1)))
  rw [← val290_eq, ← val301_eq]; rfl
theorem val413_eq (c : Dev nD) : val413 m ρ c = (st3 m ρ c 0 1).o := by
  show _ = (bO (qv m ρ c 0 1) (st2 m ρ c 0 1).m (st2 m ρ c 0 1).o (blkOf (slab m ρ (src c 3) 0 0 1)) (blkOf (slab m ρ (src c 3) 0 1 1)))
  rw [← val290_eq, ← val305_eq]; rfl
theorem val213_eq (c : Dev nD) : val213 m ρ c = (st1 m ρ c 1 0).m := rfl
theorem val224_eq (c : Dev nD) : val224 m ρ c = (st1 m ρ c 1 0).l := rfl
theorem val228_eq (c : Dev nD) : val228 m ρ c = (st1 m ρ c 1 0).o := rfl
theorem val321_eq (c : Dev nD) : val321 m ρ c = (st2 m ρ c 1 0).m := by
  show _ = (bM (qv m ρ c 1 0) (st1 m ρ c 1 0).m (blkOf (slab m ρ (src c 1) 1 0 0)))
  rw [← val213_eq]; rfl
theorem val332_eq (c : Dev nD) : val332 m ρ c = (st2 m ρ c 1 0).l := by
  show _ = (bL (qv m ρ c 1 0) (st1 m ρ c 1 0).m (st1 m ρ c 1 0).l (blkOf (slab m ρ (src c 1) 1 0 0)))
  rw [← val213_eq, ← val224_eq]; rfl
theorem val336_eq (c : Dev nD) : val336 m ρ c = (st2 m ρ c 1 0).o := by
  show _ = (bO (qv m ρ c 1 0) (st1 m ρ c 1 0).m (st1 m ρ c 1 0).o (blkOf (slab m ρ (src c 1) 1 0 0)) (blkOf (slab m ρ (src c 1) 1 1 0)))
  rw [← val213_eq, ← val228_eq]; rfl
theorem val429_eq (c : Dev nD) : val429 m ρ c = (st3 m ρ c 1 0).m := by
  show _ = (bM (qv m ρ c 1 0) (st2 m ρ c 1 0).m (blkOf (slab m ρ (src c 3) 1 0 0)))
  rw [← val321_eq]; rfl
theorem val440_eq (c : Dev nD) : val440 m ρ c = (st3 m ρ c 1 0).l := by
  show _ = (bL (qv m ρ c 1 0) (st2 m ρ c 1 0).m (st2 m ρ c 1 0).l (blkOf (slab m ρ (src c 3) 1 0 0)))
  rw [← val321_eq, ← val332_eq]; rfl
theorem val444_eq (c : Dev nD) : val444 m ρ c = (st3 m ρ c 1 0).o := by
  show _ = (bO (qv m ρ c 1 0) (st2 m ρ c 1 0).m (st2 m ρ c 1 0).o (blkOf (slab m ρ (src c 3) 1 0 0)) (blkOf (slab m ρ (src c 3) 1 1 0)))
  rw [← val321_eq, ← val336_eq]; rfl
theorem val565_eq (c : Dev nD) : val565 m ρ c = (st4 m ρ c 1 0).l := by
  show _ = (bL (qv m ρ c 1 0) (st3 m ρ c 1 0).m (st3 m ρ c 1 0).l (blkOf (slab m ρ (src c 2) 1 0 0)))
  rw [← val429_eq, ← val440_eq]; rfl
theorem val569_eq (c : Dev nD) : val569 m ρ c = (st4 m ρ c 1 0).o := by
  show _ = (bO (qv m ρ c 1 0) (st3 m ρ c 1 0).m (st3 m ρ c 1 0).o (blkOf (slab m ρ (src c 2) 1 0 0)) (blkOf (slab m ρ (src c 2) 1 1 0)))
  rw [← val429_eq, ← val444_eq]; rfl
theorem val236_eq (c : Dev nD) : val236 m ρ c = (st1 m ρ c 1 1).m := rfl
theorem val247_eq (c : Dev nD) : val247 m ρ c = (st1 m ρ c 1 1).l := rfl
theorem val251_eq (c : Dev nD) : val251 m ρ c = (st1 m ρ c 1 1).o := rfl
theorem val344_eq (c : Dev nD) : val344 m ρ c = (st2 m ρ c 1 1).m := by
  show _ = (bM (qv m ρ c 1 1) (st1 m ρ c 1 1).m (blkOf (slab m ρ (src c 1) 1 0 1)))
  rw [← val236_eq]; rfl
theorem val355_eq (c : Dev nD) : val355 m ρ c = (st2 m ρ c 1 1).l := by
  show _ = (bL (qv m ρ c 1 1) (st1 m ρ c 1 1).m (st1 m ρ c 1 1).l (blkOf (slab m ρ (src c 1) 1 0 1)))
  rw [← val236_eq, ← val247_eq]; rfl
theorem val359_eq (c : Dev nD) : val359 m ρ c = (st2 m ρ c 1 1).o := by
  show _ = (bO (qv m ρ c 1 1) (st1 m ρ c 1 1).m (st1 m ρ c 1 1).o (blkOf (slab m ρ (src c 1) 1 0 1)) (blkOf (slab m ρ (src c 1) 1 1 1)))
  rw [← val236_eq, ← val251_eq]; rfl
theorem val452_eq (c : Dev nD) : val452 m ρ c = (st3 m ρ c 1 1).m := by
  show _ = (bM (qv m ρ c 1 1) (st2 m ρ c 1 1).m (blkOf (slab m ρ (src c 3) 1 0 1)))
  rw [← val344_eq]; rfl
theorem val463_eq (c : Dev nD) : val463 m ρ c = (st3 m ρ c 1 1).l := by
  show _ = (bL (qv m ρ c 1 1) (st2 m ρ c 1 1).m (st2 m ρ c 1 1).l (blkOf (slab m ρ (src c 3) 1 0 1)))
  rw [← val344_eq, ← val355_eq]; rfl
theorem val467_eq (c : Dev nD) : val467 m ρ c = (st3 m ρ c 1 1).o := by
  show _ = (bO (qv m ρ c 1 1) (st2 m ρ c 1 1).m (st2 m ρ c 1 1).o (blkOf (slab m ρ (src c 3) 1 0 1)) (blkOf (slab m ρ (src c 3) 1 1 1)))
  rw [← val344_eq, ← val359_eq]; rfl

theorem out0_eq (c : Dev nD) : out0 m ρ c = finish (val159 m ρ c) (st4 m ρ c 0 0) (st4 m ρ c 0 1) := by
  have e : ∀ k, st4 m ρ c 0 k = step (qv m ρ c 0 k) (slab m ρ (src c 2) 0 0 k) (slab m ρ (src c 2) 0 1 k)
      ⟨(st3 m ρ c 0 k).m, (st3 m ρ c 0 k).l, (st3 m ρ c 0 k).o⟩ := fun k => rfl
  rw [e, e, ← val375_eq, ← val386_eq, ← val390_eq, ← val398_eq, ← val409_eq, ← val413_eq]
  rfl

theorem out1_eq (c : Dev nD) : out1 m ρ c = finish (val159 m ρ c) (st4 m ρ c 1 0) (st4 m ρ c 1 1) := by
  have e : ∀ k, st4 m ρ c 1 k = step (qv m ρ c 1 k) (slab m ρ (src c 2) 1 0 k) (slab m ρ (src c 2) 1 1 k)
      ⟨(st3 m ρ c 1 k).m, (st3 m ρ c 1 k).l, (st3 m ρ c 1 k).o⟩ := fun k => rfl
  rw [e, e, ← val429_eq, ← val440_eq, ← val444_eq, ← val452_eq, ← val463_eq, ← val467_eq]
  rfl

end Cert.KernelIdealProof
-- ==== Proof.Consts.lean ====
/-
# The literals of the two programs, as extended reals
-/
module

public import Idealize.ShloMosaic.PureOps.Ideal

@[expose] public section

noncomputable section

namespace Cert.Consts

open Idealize.ShloMosaic

/-- The reference's scale of the scores, 1/8. -/
theorem ofBits_eighth : Ideal.ofBits .f32 0x3E000000#32 = ((1 / 8 : ℝ) : EReal) := by
  simp [Ideal.ofBits, Ideal.ieee, -EReal.coe_mul]; norm_num

/-- The reference's start of the running maximum. -/
theorem ofBits_neg_inf : Ideal.ofBits .f32 0xFF800000#32 = ⊥ := by
  simp [Ideal.ofBits, Ideal.ieee]

/-- The kernel's start of the running maximum is a real (the f32 nearest -10³⁰). -/
theorem ofBits_start : ∃ r : ℝ, Ideal.ofBits .f32 0xF149F2CA#32 = (r : EReal) := by
  simp [Ideal.ofBits, Ideal.ieee, -EReal.coe_mul, -EReal.coe_neg]

end Cert.Consts
-- ==== Proof.KernelIdeal.Rows.lean ====
/-
# The body's running softmax read at an index, over the reals

Each operation of a step read at a row, a key or a column: a score is a sum over the 64 columns, the new maximum is the
larger of the old one and the block's largest score, the two sums are rescaled and added to.
-/
module

public import proofs.«01_k».proof.Proof.KernelIdeal.Blocks
public import proofs.«01_k».proof.Proof.Consts
public import Idealize.ShloMosaic.Lib.Pointwise

@[expose] public section

noncomputable section

namespace Cert.KernelIdealProof

open Cert.KernelIdeal Cert.KernelIdeal.Gen
open Idealize.ShloMosaic
open Idealize.ShloMosaic.TcCoe

theorem bS_apply (q : FVec Ideal S1024x64 .bf16) (k : FVec Ideal S64x512 .bf16) (r : Fin 1024) (j : Fin 512) :
    bS q k (ix2 r j) = ∑ d : Fin 64, q (ix2 r d) * k (ix2 d j) := by
  pointwise [bS]

theorem bM_apply (q : FVec Ideal S1024x64 .bf16) (m : FVec Ideal S1024x1 .f32) (k : FVec Ideal S64x512 .bf16) (r : Fin 1024) :
    bM q m k (ix2 r 0) = m (ix2 r 0) ⊔ Finset.univ.sup fun j => bS q k (ix2 r j) := by
  pointwise [bM]
  rw [Cert.Consts.ofBits_neg_inf]; rfl

theorem bA_apply (q : FVec Ideal S1024x64 .bf16) (m : FVec Ideal S1024x1 .f32) (k : FVec Ideal S64x512 .bf16) (r : Fin 1024) :
    bA q m k (ix2 r 0) = Ideal.exp2 (m (ix2 r 0) - bM q m k (ix2 r 0)) := by
  pointwise [bA]
  rfl

theorem bP_apply (q : FVec Ideal S1024x64 .bf16) (m : FVec Ideal S1024x1 .f32) (k : FVec Ideal S64x512 .bf16) (r : Fin 1024) (j : Fin 512) :
    bP q m k (ix2 r j) = Ideal.exp2 (bS q k (ix2 r j) - bM q m k (ix2 r 0)) := by
  pointwise [bP]
  rfl

theorem bL_apply (q : FVec Ideal S1024x64 .bf16) (m l : FVec Ideal S1024x1 .f32) (k : FVec Ideal S64x512 .bf16) (r : Fin 1024) :
    bL q m l k (ix2 r 0) = l (ix2 r 0) * bA q m k (ix2 r 0) + ∑ j : Fin 512, bP q m k (ix2 r j) := by
  pointwise [bL]

theorem bO_apply (q : FVec Ideal S1024x64 .bf16) (m : FVec Ideal S1024x1 .f32) (o : FVec Ideal S1024x64 .f32)
    (k v : FVec Ideal S64x512 .bf16) (r : Fin 1024) (d : Fin 64) :
    bO q m o k v (ix2 r d) = o (ix2 r d) * bA q m k (ix2 r 0) + ∑ j : Fin 512, bP q m k (ix2 r j) * v (ix2 d j) := by
  pointwise [bO]

theorem blkOf_apply (w : Vec Ideal S1x1x1x1x64x512 .bf16) (d : Fin 64) (j : Fin 512) :
    blkOf w (ix2 d j) = w (ix6 0 0 0 0 d j) := by
  pointwise [blkOf]

theorem pay1_apply (w : Vec Ideal S1x512x1x64 .bf16) (d : Fin 64) (j : Fin 512) :
    k0_pay1 w (ix6 0 0 0 0 d j) = w (ix4 0 j 0 d) := by
  pointwise [k0_pay1]

theorem heads_apply (s : St Ideal) (i : Fin 256) (col : Fin 256) :
    heads s (ix2 i col) = Ideal.div (s.o (ix2 ⟨col / 64 * 256 + i, by omega⟩ ⟨col % 64, by omega⟩))
      (s.l (ix2 ⟨col / 64 * 256 + i, by omega⟩ 0)) := by
  pointwise [heads]

theorem finish_apply (wo : FVec Ideal S512x768 .bf16) (s₀ s₁ : St Ideal) (i : Fin 256) (n : Fin 768) :
    finish wo s₀ s₁ (ix3 0 i n) = ∑ col : Fin 512,
      (if h : col.val < 256 then heads s₀ (ix2 i ⟨col, h⟩) else heads s₁ (ix2 i ⟨col - 256, by omega⟩)) * wo (ix2 col n) := by
  pointwise [finish]

theorem pay16_apply (wq : FVec Ideal S768x512 .bf16) (x : Vec Ideal S1x256x768 .bf16) (r : Fin 1024) (d : Fin 64) :
    k0_pay16 wq x (ix2 r d) = (∑ e : Fin 768, x (ix3 0 ⟨r % 256, by omega⟩ e) * wq (ix2 e ⟨r / 256 * 64 + d, by omega⟩))
      * Named.named (F := Ideal) κ "scale" (φ := .f32) 0x3E38AA3B#32 := by
  pointwise [k0_pay16, k0_pay15]

theorem pay17_apply (wq : FVec Ideal S768x512 .bf16) (x : Vec Ideal S1x256x768 .bf16) (r : Fin 1024) (d : Fin 64) :
    k0_pay17 wq x (ix2 r d) = (∑ e : Fin 768, x (ix3 0 ⟨r % 256, by omega⟩ e) * wq (ix2 e ⟨(4 + r / 256) * 64 + d, by omega⟩))
      * Named.named (F := Ideal) κ "scale" (φ := .f32) 0x3E38AA3B#32 := by
  pointwise [k0_pay17, k0_pay15]

theorem val125_apply (m : (ℓ : Loc nD τ sig) → Buf (Elt Ideal) ℓ) (ρ : Dev nD → PrngReg) (c : Dev nD) (e : Fin 768) (n : Fin 512) :
    val125 m ρ c (ix2 e n) = wqread m ρ c (ix2 e n) := by
  pointwise [val125, k0_pay10]

theorem val159_apply (m : (ℓ : Loc nD τ sig) → Buf (Elt Ideal) ℓ) (ρ : Dev nD → PrngReg) (c : Dev nD) (e : Fin 512) (n : Fin 768) :
    val159 m ρ c (ix2 e n) = woread m ρ c (ix2 e n) := by
  pointwise [val159, k0_pay24]

end Cert.KernelIdealProof
-- ==== Proof.KernelIdeal.Reads.lean ====
/-
# What the body's loads read, element by element, and what the launch leaves in the output array

Every window is its whole array, so a load of a part of a staged block reads the array itself; the output array ends as the
block the body leaves.
-/
module

public import proofs.«01_k».proof.Proof.KernelIdeal.Launch
public import Idealize.ShloMosaic.Lib.Pointwise

@[expose] public section

noncomputable section

namespace Cert.KernelIdealProof

open Cert.KernelIdeal Cert.KernelIdeal.Gen
open Idealize.ShloMosaic
open Idealize.ShloMosaic.TcCoe

variable {F : FTy → Type} [FloatOps F] [Named F]
variable (m : (ℓ : Loc nD τ sig) → Buf (Elt F) ℓ) (ρ : Dev nD → PrngReg)

theorem xread_apply (c : Dev nD) (b : Fin 2) (i : Fin 256) (e : Fin 768) :
    xread m ρ c b (ix3 0 i e) = m ((c.tc : Thread nD τ).loc main_arg0) (ix3 b i e) := by
  show m ((c.tc : Thread nD τ).loc main_arg0) _ = _
  congr 1
  funext a
  apply Fin.ext
  match a with
  | ⟨0, _⟩ => show 0 * 2 + 1 * (b.val + 1 * 0) = b.val; omega
  | ⟨1, _⟩ => show 0 * 256 + 1 * (0 + 1 * i.val) = i.val; omega
  | ⟨2, _⟩ => show 0 * 768 + 1 * (0 + 1 * e.val) = e.val; omega

theorem wqread_apply (c : Dev nD) (e : Fin 768) (n : Fin 512) :
    wqread m ρ c (ix2 e n) = m ((c.tc : Thread nD τ).loc main_arg1) (ix2 e n) := by
  show m ((c.tc : Thread nD τ).loc main_arg1) _ = _
  congr 1
  funext a
  apply Fin.ext
  match a with
  | ⟨0, _⟩ => show 0 * 768 + 1 * (0 + 1 * e.val) = e.val; omega
  | ⟨1, _⟩ => show 0 * 512 + 1 * (0 + 1 * n.val) = n.val; omega

theorem woread_apply (c : Dev nD) (e : Fin 512) (n : Fin 768) :
    woread m ρ c (ix2 e n) = m ((c.tc : Thread nD τ).loc main_arg4) (ix2 e n) := by
  show m ((c.tc : Thread nD τ).loc main_arg4) _ = _
  congr 1
  funext a
  apply Fin.ext
  match a with
  | ⟨0, _⟩ => show 0 * 512 + 1 * (0 + 1 * e.val) = e.val; omega
  | ⟨1, _⟩ => show 0 * 768 + 1 * (0 + 1 * n.val) = n.val; omega

theorem kread_apply (e : Dev nD) (b kh : Fin 2) (j : Fin 512) (d : Fin 64) :
    kvread m ρ e b 0 kh (ix4 0 j 0 d) = m ((e.tc : Thread nD τ).loc main_arg2) (ix4 b j kh d) := by
  show m ((e.tc : Thread nD τ).loc main_arg2) _ = _
  congr 1
  funext a
  apply Fin.ext
  match a with
  | ⟨0, _⟩ => show 0 * 2 + 1 * (b.val + 1 * 0) = b.val; omega
  | ⟨1, _⟩ => show 0 * 512 + 1 * (0 + 1 * j.val) = j.val; omega
  | ⟨2, _⟩ => show 0 * 2 + 1 * (kh.val + 1 * 0) = kh.val; omega
  | ⟨3, _⟩ => show 0 * 64 + 1 * (0 + 1 * d.val) = d.val; omega

theorem vread_apply (e : Dev nD) (b kh : Fin 2) (j : Fin 512) (d : Fin 64) :
    kvread m ρ e b 1 kh (ix4 0 j 0 d) = m ((e.tc : Thread nD τ).loc main_arg3) (ix4 b j kh d) := by
  show m ((e.tc : Thread nD τ).loc main_arg3) _ = _
  congr 1
  funext a
  apply Fin.ext
  match a with
  | ⟨0, _⟩ => show 0 * 2 + 1 * (b.val + 1 * 0) = b.val; omega
  | ⟨1, _⟩ => show 0 * 512 + 1 * (0 + 1 * j.val) = j.val; omega
  | ⟨2, _⟩ => show 0 * 2 + 1 * (kh.val + 1 * 0) = kh.val; omega
  | ⟨3, _⟩ => show 0 * 64 + 1 * (0 + 1 * d.val) = d.val; omega

theorem out_emb (y : S2x256x768.Idx) : (win0_5.blk (0 : Fin 1)).view.emb y = y := by
  funext a
  apply Fin.ext
  match a with
  | ⟨0, _⟩ => show 0 * 2 + 1 * (y 0).val = (y 0).val; omega
  | ⟨1, _⟩ => show 0 * 256 + 1 * (y 1).val = (y 1).val; omega
  | ⟨2, _⟩ => show 0 * 768 + 1 * (y 2).val = (y 2).val; omega

theorem finalA_out (c : Dev nD) : finalA m ρ c 5 = outBlk m ρ c := by
  unfold finalA
  refine Pipeline.Dat.arrAt_eq_of_cover (dats m ρ 0 c) (5 : Fin 6) (outBlk m ρ c) (fun t _ => ?_) (fun i => ⟨(0 : Fin 1), rfl, ?_⟩)
  · obtain rfl : t = (0 : Fin 1) := (Fin.eq_zero (show Fin 1 from t))
    funext y
    show outBlk m ρ c y = outBlk m ρ c ((win0_5.blk (0 : Fin 1)).view.emb y)
    rw [out_emb]
  · have h := (win0_5.blk (0 : Fin 1)).view.emb_mem_set i
    rw [out_emb] at h
    exact h

end Cert.KernelIdealProof
-- ==== Proof.Softmax.lean ====
/-
# Softmax taken block by block, over the extended reals

A running softmax keeps, of the keys seen so far, the maximum score `m`, the sum of the weights `e (s j - m)` and the sum
of the weighted values. A new block of keys raises the maximum and rescales the two sums. This file proves that whatever
the blocks and their order, what is kept depends on the set of keys seen alone (`Seen`), and that the quotient of the two
sums does not depend on the base of the exponential nor on the value the running maximum starts from.
-/
module

public import Idealize.ShloMosaic.PureOps.Ideal

@[expose] public section

noncomputable section

namespace Cert.Softmax

open Idealize.ShloMosaic

/-- An exponential of base `exp b`, with `b` positive: `⊥` goes to 0, a real `r` to `exp (b * r)`. -/
structure IsExp (e : EReal → EReal) (b : ℝ) : Prop where
  bot : e ⊥ = 0
  coe : ∀ r : ℝ, e (r : EReal) = ((Real.exp (b * r) : ℝ) : EReal)
  pos : 0 < b

theorem isExp_exp : IsExp Ideal.exp 1 := ⟨rfl, fun r => by rw [Ideal.exp_coe, one_mul], one_pos⟩

theorem isExp_exp2 : IsExp Ideal.exp2 (Real.log 2) := by
  refine ⟨rfl, fun r => ?_, Real.log_pos (by norm_num)⟩
  rw [Ideal.exp2_coe, Real.rpow_eq_pow, Real.rpow_def_of_pos (by norm_num)]

theorem sub_top' (x : EReal) : x - ⊤ = ⊥ := by
  rw [sub_eq_add_neg, EReal.neg_top, EReal.add_bot]

theorem bot_sub' (x : EReal) : (⊥ : EReal) - x = ⊥ := by
  rw [sub_eq_add_neg, EReal.bot_add]

variable {e : EReal → EReal} {b : ℝ}

/-- Rescaling: a weight against the maximum `m`, rescaled from `m` to `m'`, is the weight against `m'`. -/
theorem IsExp.rescale (h : IsExp e b) {s m m' : EReal} (h₁ : s ≤ m) (h₂ : m ≤ m') : e (s - m) * e (m - m') = e (s - m') := by
  induction m' with
  | top => rw [sub_top', sub_top', h.bot, mul_zero]
  | bot =>
    obtain rfl := le_bot_iff.mp h₂
    obtain rfl := le_bot_iff.mp h₁
    rw [bot_sub', h.bot, mul_zero]
  | coe r' =>
    induction m with
    | top => exact absurd h₂ (by simp)
    | bot =>
      obtain rfl := le_bot_iff.mp h₁
      rw [bot_sub', bot_sub', h.bot, mul_zero]
    | coe r =>
      induction s with
      | top => exact absurd h₁ (by simp)
      | bot => rw [bot_sub', bot_sub', h.bot, zero_mul]
      | coe t =>
        rw [← EReal.coe_sub, ← EReal.coe_sub, ← EReal.coe_sub, h.coe, h.coe, h.coe, ← EReal.coe_mul, ← Real.exp_add]
        congr 2; ring

/-- A weight against a maximum above the score is a real, and not negative. -/
theorem IsExp.weight (h : IsExp e b) {s m : EReal} (h₁ : s ≤ m) : ∃ r : ℝ, 0 ≤ r ∧ e (s - m) = (r : EReal) := by
  induction m with
  | top => exact ⟨0, le_refl _, by rw [sub_top', h.bot]; rfl⟩
  | bot =>
    obtain rfl := le_bot_iff.mp h₁
    exact ⟨0, le_refl _, by rw [bot_sub', h.bot]; rfl⟩
  | coe r =>
    induction s with
    | top => exact absurd h₁ (by simp)
    | bot => exact ⟨0, le_refl _, by rw [bot_sub', h.bot]; rfl⟩
    | coe t => exact ⟨_, (Real.exp_pos _).le, by rw [← EReal.coe_sub, h.coe]⟩

theorem sum_mul_of_real {ι : Type*} (A : Finset ι) (f : ι → EReal) {c : EReal} (h : ∃ r : ℝ, 0 ≤ r ∧ c = (r : EReal)) :
    (∑ j ∈ A, f j) * c = ∑ j ∈ A, f j * c := by
  classical
  obtain ⟨r, hr, rfl⟩ := h
  induction A using Finset.induction_on with
  | empty => simp
  | insert a A ha ih =>
    rw [Finset.sum_insert ha, Finset.sum_insert ha, ← ih,
      EReal.right_distrib_of_nonneg_of_ne_top (by exact_mod_cast hr) (EReal.coe_ne_top r)]

theorem coe_sum' {ι : Type*} (A : Finset ι) (f : ι → ℝ) : ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

variable {ι : Type*} [DecidableEq ι]

/-- What is kept after the keys `A` were seen: the maximum from `m₀` on, the sum of the weights, and the sum of the
weighted values in every column. -/
structure Seen (e : EReal → EReal) {κ : Type*} (m₀ : EReal) (s : ι → EReal) (v : ι → κ → EReal) (A : Finset ι)
    (m l : EReal) (a : κ → EReal) : Prop where
  max : m = m₀ ⊔ A.sup s
  sum : l = ∑ j ∈ A, e (s j - m)
  acc : ∀ d, a d = ∑ j ∈ A, e (s j - m) * v j d

variable {κ : Type*} {m₀ : EReal} {s : ι → EReal} {v : ι → κ → EReal}

theorem Seen.empty : Seen e m₀ s v ∅ m₀ 0 (fun _ => 0) := ⟨by simp, by simp, fun d => by simp⟩

/-- A further block of `n` keys, key `j` of it being `f j`. -/
theorem Seen.step (h : IsExp e b) {A : Finset ι} {m l : EReal} {a : κ → EReal} (H : Seen e m₀ s v A m l a) {n : ℕ}
    (f : Fin n ↪ ι) (hf : ∀ j, f j ∉ A) (m' : EReal) (hm : m' = m ⊔ Finset.univ.sup fun j => s (f j)) :
    Seen e m₀ s v (A ∪ Finset.univ.map f) m'
      (l * e (m - m') + ∑ j, e (s (f j) - m'))
      (fun d => a d * e (m - m') + ∑ j, e (s (f j) - m') * v (f j) d) := by
  have hd : Disjoint A (Finset.univ.map f) := by
    rw [Finset.disjoint_left]; intro x hx hx'
    obtain ⟨j, -, rfl⟩ := Finset.mem_map.mp hx'
    exact hf j hx
  have hmm : m ≤ m' := hm ▸ le_sup_left
  have hs : ∀ j ∈ A, s j ≤ m := fun j hj => H.max ▸ le_sup_of_le_right (Finset.le_sup hj)
  have hc : ∃ r : ℝ, 0 ≤ r ∧ e (m - m') = (r : EReal) := h.weight hmm
  refine ⟨?_, ?_, fun d => ?_⟩
  · rw [hm, H.max, Finset.sup_union, Finset.sup_map, ← sup_assoc]; rfl
  · rw [Finset.sum_union hd, Finset.sum_map, H.sum, sum_mul_of_real A _ hc]
    congr 1
    exact Finset.sum_congr rfl fun j hj => h.rescale (hs j hj) hmm
  · rw [Finset.sum_union hd, Finset.sum_map, H.acc, sum_mul_of_real A _ hc]
    congr 1
    refine Finset.sum_congr rfl fun j hj => ?_
    rw [mul_assoc, mul_comm (v j d), ← mul_assoc, h.rescale (hs j hj) hmm]

/-- The same step, its scores, values and results under names of their own. -/
theorem Seen.step' (h : IsExp e b) {A : Finset ι} {m l : EReal} {a : κ → EReal} (H : Seen e m₀ s v A m l a) {n : ℕ}
    (f : Fin n ↪ ι) (hf : ∀ j, f j ∉ A) {m' l' : EReal} {a' : κ → EReal} (S : Fin n → EReal) (V : Fin n → κ → EReal)
    (hS : ∀ j, S j = s (f j)) (hV : ∀ j d, V j d = v (f j) d) (hm : m' = m ⊔ Finset.univ.sup S)
    (hl : l' = l * e (m - m') + ∑ j, e (S j - m'))
    (ha : ∀ d, a' d = a d * e (m - m') + ∑ j, e (S j - m') * V j d) :
    Seen e m₀ s v (A ∪ Finset.univ.map f) m' l' a' := by
  obtain rfl : S = fun j => s (f j) := funext hS
  obtain rfl : V = fun j => v (f j) := funext fun j => funext (hV j)
  have := H.step h f hf m' hm
  rw [← hl] at this
  rwa [show a' = _ from funext ha]

/-- The quotient a softmax ends in, of scores `s` and values `v` over all keys, by `exp` and the true maximum. -/
def soft [Fintype ι] (s v : ι → EReal) : EReal :=
  Ideal.div (∑ j, Ideal.exp (s j - Finset.univ.sup s) * v j) (∑ j, Ideal.exp (s j - Finset.univ.sup s))

variable [Fintype ι]

theorem Seen.quot_exp {m l : EReal} {a : κ → EReal} (H : Seen Ideal.exp ⊥ s v Finset.univ m l a) (d : κ) :
    Ideal.div (a d) l = soft s (fun j => v j d) := by
  have hm : m = Finset.univ.sup s := by rw [H.max, bot_sup_eq]
  rw [H.acc, H.sum, hm]; rfl

/-- The same quotient, taken in base 2 over scores divided by `log 2`, from a real start `m₀` of the maximum. -/
theorem Seen.quot_exp2 [Nonempty ι] {m l : EReal} {a : κ → EReal} {r₀ : ℝ} {t : ι → EReal} {c : ℝ} (hc : 0 < c)
    (H : Seen Ideal.exp2 (r₀ : EReal) (fun j => t j * ((c / Real.log 2 : ℝ) : EReal)) v Finset.univ m l a) (d : κ) :
    Ideal.div (a d) l = soft (fun j => t j * (c : EReal)) (fun j => v j d) := by
  have hlog : 0 < Real.log 2 := Real.log_pos (by norm_num)
  have hc2 : 0 < c / Real.log 2 := div_pos hc hlog
  obtain ⟨i, -, hi⟩ := Finset.exists_mem_eq_sup Finset.univ Finset.univ_nonempty t
  have hle : ∀ j, t j ≤ t i := fun j => hi ▸ Finset.le_sup (Finset.mem_univ j)
  have hsup : ∀ {k : ℝ}, 0 < k → (Finset.univ.sup fun j => t j * (k : EReal)) = t i * (k : EReal) := by
    intro k hk
    refine le_antisymm (Finset.sup_le fun j _ => ?_) (Finset.le_sup (f := fun j => t j * (k : EReal)) (Finset.mem_univ i))
    exact mul_le_mul_of_nonneg_right (hle j) (by exact_mod_cast hk.le)
  unfold soft
  rw [hsup hc, H.acc, H.sum]
  have hm := H.max
  rw [hsup hc2] at hm
  generalize hti : t i = T at *
  induction T with
  | top =>
    have e1 : m = ⊤ := by rw [hm, EReal.top_mul_coe_of_pos hc2, sup_top_eq]
    rw [e1, EReal.top_mul_coe_of_pos hc]
    simp only [sub_top', Ideal.exp_bot, Ideal.exp2_bot]
  | bot =>
    have e1 : ∀ j, t j = ⊥ := fun j => le_bot_iff.mp (hle j)
    simp only [e1, EReal.bot_mul_coe_of_pos hc, EReal.bot_mul_coe_of_pos hc2, bot_sub', Ideal.exp_bot, Ideal.exp2_bot]
  | coe T =>
    obtain ⟨M, hM⟩ : ∃ M : ℝ, m = (M : EReal) := by
      rw [hm, ← EReal.coe_mul]
      rcases le_total ((r₀ : ℝ) : EReal) ((T * (c / Real.log 2) : ℝ) : EReal) with h | h
      · exact ⟨_, sup_of_le_right h⟩
      · exact ⟨_, sup_of_le_left h⟩
    have key : ∀ j, Ideal.exp2 (t j * ((c / Real.log 2 : ℝ) : EReal) - m)
        = Ideal.exp (t j * (c : EReal) - (T : EReal) * (c : EReal)) * ((Real.exp (T * c - Real.log 2 * M) : ℝ) : EReal) := by
      intro j
      have hj := hle j
      generalize t j = u at hj
      rw [hM]
      induction u with
      | top => exact absurd hj (by simp)
      | bot => rw [EReal.bot_mul_coe_of_pos hc, EReal.bot_mul_coe_of_pos hc2, bot_sub', bot_sub', Ideal.exp_bot, Ideal.exp2_bot, zero_mul]
      | coe u =>
        rw [← EReal.coe_mul, ← EReal.coe_mul, ← EReal.coe_mul, ← EReal.coe_sub, ← EReal.coe_sub, isExp_exp2.coe, Ideal.exp_coe,
          ← EReal.coe_mul, ← Real.exp_add]
        congr 2; field_simp; ring
    have hκ : 0 < Real.exp (T * c - Real.log 2 * M) := Real.exp_pos _
    generalize Real.exp (T * c - Real.log 2 * M) = k at hκ key
    have hk : ∃ r : ℝ, 0 ≤ r ∧ (k : EReal) = (r : EReal) := ⟨k, hκ.le, rfl⟩
    have hw : ∀ j, ∃ r : ℝ, 0 ≤ r ∧ Ideal.exp (t j * (c : EReal) - (T : EReal) * (c : EReal)) = (r : EReal) := fun j =>
      isExp_exp.weight (mul_le_mul_of_nonneg_right (hle j) (by exact_mod_cast hc.le))
    choose w hw0 hw using hw
    have hwi : 0 < w i := by
      have := hw i
      rw [hti, ← EReal.coe_mul, ← EReal.coe_sub, sub_self, Ideal.exp_coe, Real.exp_zero] at this
      have : (1 : ℝ) = w i := by exact_mod_cast this
      rw [← this]; exact one_pos
    have hL : 0 < ∑ j, w j := Finset.sum_pos' (fun j _ => hw0 j) ⟨i, Finset.mem_univ i, hwi⟩
    have e2 : (∑ j, Ideal.exp2 (t j * ((c / Real.log 2 : ℝ) : EReal) - m)) = (((∑ j, w j) * k : ℝ) : EReal) := by
      rw [EReal.coe_mul, coe_sum', sum_mul_of_real _ _ hk]
      exact Finset.sum_congr rfl fun j _ => by rw [key, hw]
    have e3 : (∑ j, Ideal.exp2 (t j * ((c / Real.log 2 : ℝ) : EReal) - m) * v j d)
        = (∑ j, Ideal.exp (t j * (c : EReal) - (T : EReal) * (c : EReal)) * v j d) * (k : EReal) := by
      rw [sum_mul_of_real _ _ hk]
      exact Finset.sum_congr rfl fun j _ => by rw [key, mul_assoc, mul_comm (k : EReal), ← mul_assoc]
    have e4 : (∑ j, Ideal.exp (t j * (c : EReal) - (T : EReal) * (c : EReal))) = ((∑ j, w j : ℝ) : EReal) := by
      rw [coe_sum']
      exact Finset.sum_congr rfl fun j _ => hw j
    rw [e2, e3, e4, Ideal.div_coe (mul_pos hL hκ).ne', Ideal.div_coe hL.ne', mul_assoc]
    congr 1
    rw [← EReal.coe_mul]
    congr 1
    field_simp

end Cert.Softmax
-- ==== Proof.Spec.lean ====
/-
# The layer, element by element

Grouped-query attention between a query product and an output product, as both programs compute it over the reals: eight
query heads, the four of a group sharing a key head, scores scaled by 1/8, softmax over all 2048 keys.
-/
module

public import proofs.«01_k».proof.Proof.Softmax
public import Idealize.ShloMosaic.Lib.Pointwise.Index

@[expose] public section

noncomputable section

namespace Cert.Spec

open Idealize.ShloMosaic

variable (X : (⟨3, ![2, 256, 768]⟩ : Shape).Idx → EReal) (Wq : (⟨2, ![768, 512]⟩ : Shape).Idx → EReal)
  (K V : (⟨4, ![2, 2048, 2, 64]⟩ : Shape).Idx → EReal) (Wo : (⟨2, ![512, 768]⟩ : Shape).Idx → EReal)

/-- A query: row `i` of batch `b`, head `h`. -/
def query (b : Fin 2) (i : Fin 256) (h : Fin 8) (d : Fin 64) : EReal :=
  ∑ e : Fin 768, X (ix3 b i e) * Wq (ix2 e ⟨h * 64 + d, by omega⟩)

/-- Its product with key `j`, not scaled. -/
def score (b : Fin 2) (i : Fin 256) (h : Fin 8) (j : Fin 2048) : EReal :=
  ∑ d : Fin 64, query X Wq b i h d * K (ix4 b j ⟨h / 4, by omega⟩ d)

/-- A column of head `h`'s attention. -/
def att (b : Fin 2) (i : Fin 256) (h : Fin 8) (d : Fin 64) : EReal :=
  Softmax.soft (fun j => score X Wq K b i h j * ((1 / 8 : ℝ) : EReal)) (fun j => V (ix4 b j ⟨h / 4, by omega⟩ d))

/-- An element of the result. -/
def result (b : Fin 2) (i : Fin 256) (n : Fin 768) : EReal :=
  ∑ col : Fin 512, att X Wq K V b i ⟨col / 64, by omega⟩ ⟨col % 64, by omega⟩ * Wo (ix2 col n)

end Cert.Spec
-- ==== Proof.KernelIdeal.Result.lean ====
/-
# The kernel computes the layer

On device `c` the four blocks of 512 keys a head group takes are the quarters of the caches held by the devices 0, 1, 3 and
2 places before `c`: together all 2048 keys, so the quotients, and the block the body leaves, are the layer's on every
device.
-/
module

public import proofs.«01_k».proof.Proof.KernelIdeal.Rows
public import proofs.«01_k».proof.Proof.KernelIdeal.Reads
public import proofs.«01_k».proof.Proof.Spec
public import Idealize.ShloMosaic.PureOps.IdealRules

@[expose] public section

noncomputable section

namespace Cert.KernelIdealProof

open Cert.KernelIdeal Cert.KernelIdeal.Gen
open Idealize.ShloMosaic
open Idealize.ShloMosaic.TcCoe
open Cert.Softmax

/-! ## One row of a step -/

section Row
variable {s : Fin 2048 → EReal} {v : Fin 2048 → Fin 64 → EReal} {m₀ : EReal} {A : Finset (Fin 2048)}

/-- A row of a state has seen the keys `A`. -/
abbrev RowSeen (m₀ : EReal) (s : Fin 2048 → EReal) (v : Fin 2048 → Fin 64 → EReal) (A : Finset (Fin 2048)) (t : St Ideal)
    (r : Fin 1024) : Prop :=
  Seen Ideal.exp2 m₀ s v A (t.m (ix2 r 0)) (t.l (ix2 r 0)) (fun d => t.o (ix2 r d))

theorem step_seen {q : FVec Ideal S1024x64 .bf16} {wk wv : Vec Ideal S1x1x1x1x64x512 .bf16} {t : St Ideal} {r : Fin 1024}
    (H : RowSeen m₀ s v A t r) (f : Fin 512 ↪ Fin 2048) (hf : ∀ j, f j ∉ A)
    (hS : ∀ j, ∑ d : Fin 64, q (ix2 r d) * wk (ix6 0 0 0 0 d j) = s (f j))
    (hV : ∀ j d, wv (ix6 0 0 0 0 d j) = v (f j) d) :
    RowSeen m₀ s v (A ∪ Finset.univ.map f) (step q wk wv t) r := by
  refine Seen.step' isExp_exp2 H f hf (fun j => bS q (blkOf wk) (ix2 r j)) (fun j d => blkOf wv (ix2 d j))
    (fun j => ?_) (fun j d => ?_) ?_ ?_ (fun d => ?_)
  · rw [bS_apply, ← hS]; simp only [blkOf_apply]
  · rw [blkOf_apply, hV]
  · exact bM_apply _ _ _ _
  · show bL q t.m t.l (blkOf wk) (ix2 r 0) = _
    rw [bL_apply, bA_apply]; simp only [bP_apply]; rfl
  · show bO q t.m t.o (blkOf wk) (blkOf wv) (ix2 r d) = _
    rw [bO_apply, bA_apply]; simp only [bP_apply]; rfl

theorem init_seen (r : Fin 1024) : RowSeen (Ideal.ofBits .f32 0xF149F2CA#32) s v ∅ St.init r := by
  have h0 : Ideal.ofBits .f32 0x00000000#32 = 0 := Ideal.ofBits_zero_f32
  show Seen _ _ _ _ _ (Ideal.ofBits .f32 0xF149F2CA#32) (Ideal.ofBits .f32 0x00000000#32)
    (fun _ => Ideal.ofBits .f32 0x00000000#32)
  rw [h0]; exact Seen.empty

end Row

/-! ## The arrays -/

theorem scale_eq : Named.named (F := Ideal) κ "scale" (φ := .f32) 0x3E38AA3B#32 = ((1 / 8 / Real.log 2 : ℝ) : EReal) := by
  refine (IdealRules.named_const.ideal_named_scalar _ _ _ _ rfl :
    Named.named (F := Ideal) κ "scale" (φ := .f32) 0x3E38AA3B#32 = (((8 * Real.log 2)⁻¹ : ℝ) : EReal)).trans ?_
  congr 1
  rw [mul_inv, one_div, div_eq_mul_inv]

variable (m : (ℓ : Loc nD τ sig) → Buf (Elt Ideal) ℓ) (ρ : Dev nD → PrngReg)
variable (X : FVec Ideal S2x256x768 .bf16) (Wq : FVec Ideal S768x512 .bf16)
  (K V : (⟨4, ![2, 2048, 2, 64]⟩ : Shape).Idx → EReal) (Wo : FVec Ideal S512x768 .bf16)

/-- Key `j` of the quarter that device `e` holds. -/
def keyOf (e : Dev nD) : Fin 512 ↪ Fin 2048 :=
  ⟨fun j => ⟨512 * e.val + j.val, by have : e.val < 4 := e.isLt; omega⟩, fun a b h => Fin.ext (by
    have := congrArg Fin.val h; change 512 * e.val + a.val = 512 * e.val + b.val at this; omega)⟩

/-- The launch holds the arrays: the activations and the weights whole on every device, of the caches its quarter. -/
structure Holds : Prop where
  x : ∀ (c : Dev nD) (b : Fin 2) (i : Fin 256) (e : Fin 768), m ((c.tc : Thread nD τ).loc main_arg0) (ix3 b i e) = X (ix3 b i e)
  wq : ∀ (c : Dev nD) (e : Fin 768) (n : Fin 512), m ((c.tc : Thread nD τ).loc main_arg1) (ix2 e n) = Wq (ix2 e n)
  k : ∀ (c : Dev nD) (b : Fin 2) (j : Fin 512) (kh : Fin 2) (d : Fin 64),
    m ((c.tc : Thread nD τ).loc main_arg2) (ix4 b j kh d) = K (ix4 b (keyOf c j) kh d)
  v : ∀ (c : Dev nD) (b : Fin 2) (j : Fin 512) (kh : Fin 2) (d : Fin 64),
    m ((c.tc : Thread nD τ).loc main_arg3) (ix4 b j kh d) = V (ix4 b (keyOf c j) kh d)
  wo : ∀ (c : Dev nD) (e : Fin 512) (n : Fin 768), m ((c.tc : Thread nD τ).loc main_arg4) (ix2 e n) = Wo (ix2 e n)

/-- Row `r` of head group `kh`: head `4 kh + r / 256`, query row `r % 256`. -/
def headOf (kh : Fin 2) (r : Fin 1024) : Fin 8 := ⟨kh.val * 4 + r.val / 256, by omega⟩
def rowOf (r : Fin 1024) : Fin 256 := ⟨r.val % 256, by omega⟩

variable {m X Wq K V Wo}

theorem qv_apply (H : Holds m X Wq K V Wo) (c : Dev nD) (b kh : Fin 2) (r : Fin 1024) (d : Fin 64) :
    qv m ρ c b kh (ix2 r d) = Spec.query X Wq b (rowOf r) (headOf kh r) d * ((1 / 8 / Real.log 2 : ℝ) : EReal) := by
  have key : ∀ n n' : Fin 512, n = n' → (∑ e : Fin 768, xread m ρ c b (ix3 0 (rowOf r) e) * val125 m ρ c (ix2 e n))
      = ∑ e : Fin 768, X (ix3 b (rowOf r) e) * Wq (ix2 e n') := by
    rintro n _ rfl
    exact Finset.sum_congr rfl fun e _ => by rw [xread_apply, val125_apply, wqread_apply, H.x, H.wq]
  match kh with
  | 0 =>
    show k0_pay16 (val125 m ρ c) (xread m ρ c b) (ix2 r d) = _
    rw [pay16_apply, scale_eq]
    refine congrArg (· * _) (key _ _ (Fin.ext ?_))
    show r.val / 256 * 64 + d.val = (0 * 4 + r.val / 256) * 64 + d.val
    omega
  | 1 =>
    show k0_pay17 (val125 m ρ c) (xread m ρ c b) (ix2 r d) = _
    rw [pay17_apply, scale_eq]
    refine congrArg (· * _) (key _ _ (Fin.ext ?_))
    show (4 + r.val / 256) * 64 + d.val = (1 * 4 + r.val / 256) * 64 + d.val
    omega

theorem kslab_apply (H : Holds m X Wq K V Wo) (e : Dev nD) (b kh : Fin 2) (d : Fin 64) (j : Fin 512) :
    slab m ρ e b 0 kh (ix6 0 0 0 0 d j) = K (ix4 b (keyOf e j) kh d) := by
  rw [slab, pay1_apply, kread_apply, H.k]

theorem vslab_apply (H : Holds m X Wq K V Wo) (e : Dev nD) (b kh : Fin 2) (d : Fin 64) (j : Fin 512) :
    slab m ρ e b 1 kh (ix6 0 0 0 0 d j) = V (ix4 b (keyOf e j) kh d) := by
  rw [slab, pay1_apply, vread_apply, H.v]

theorem scale_pos : 0 < 1 / 8 / Real.log 2 := div_pos (by norm_num) (Real.log_pos (by norm_num))

/-- The scores of a row, in base 2, and its head group's values. -/
abbrev ksc (X : FVec Ideal S2x256x768 .bf16) (Wq : FVec Ideal S768x512 .bf16) (K : (⟨4, ![2, 2048, 2, 64]⟩ : Shape).Idx → EReal)
    (b kh : Fin 2) (r : Fin 1024) (j : Fin 2048) : EReal :=
  Spec.score X Wq K b (rowOf r) (headOf kh r) j * ((1 / 8 / Real.log 2 : ℝ) : EReal)
abbrev kvals (V : (⟨4, ![2, 2048, 2, 64]⟩ : Shape).Idx → EReal) (b kh : Fin 2) (j : Fin 2048) (d : Fin 64) : EReal := V (ix4 b j kh d)

theorem head_div (kh : Fin 2) (r : Fin 1024) : (⟨(headOf kh r).val / 4, by omega⟩ : Fin 2) = kh :=
  Fin.ext (by show (kh.val * 4 + r.val / 256) / 4 = kh.val; omega)

theorem score_eq (H : Holds m X Wq K V Wo) (c e : Dev nD) (b kh : Fin 2) (r : Fin 1024) (j : Fin 512) :
    ∑ d : Fin 64, qv m ρ c b kh (ix2 r d) * slab m ρ e b 0 kh (ix6 0 0 0 0 d j) = ksc X Wq K b kh r (keyOf e j) := by
  unfold ksc Spec.score
  rw [sum_mul_of_real _ _ ⟨_, scale_pos.le, rfl⟩]
  refine Finset.sum_congr rfl fun d _ => ?_
  rw [qv_apply ρ H, kslab_apply ρ H, head_div, mul_assoc, mul_assoc, mul_comm (K _)]

/-- The keys the devices hold, together. -/
abbrev keysOf (e : Dev nD) : Finset (Fin 2048) := Finset.univ.map (keyOf e)

theorem mem_keysOf {e : Dev nD} {k : Fin 2048} : k ∈ keysOf e ↔ k.val / 512 = e.val := by
  constructor
  · intro h
    obtain ⟨j, -, rfl⟩ := Finset.mem_map.mp h
    show (512 * e.val + j.val) / 512 = e.val
    omega
  · intro h
    refine Finset.mem_map.mpr ⟨⟨k.val % 512, by omega⟩, Finset.mem_univ _, Fin.ext ?_⟩
    show 512 * e.val + k.val % 512 = k.val
    omega

theorem keyOf_div (e : Dev nD) (j : Fin 512) : (keyOf e j).val / 512 = e.val := by
  show (512 * e.val + j.val) / 512 = e.val
  omega

theorem src_val (c : Dev nD) (d : Fin 4) : (src c d).val = (c.val + (4 - d.val)) % 4 := rfl

/-- After the fourth block a row has seen every key. -/
theorem st4_seen (H : Holds m X Wq K V Wo) (c : Dev nD) (b kh : Fin 2) (r : Fin 1024) :
    RowSeen (Ideal.ofBits .f32 0xF149F2CA#32) (ksc X Wq K b kh r) (kvals V b kh) Finset.univ (st4 m ρ c b kh) r := by
  have hc : c.val < 4 := c.isLt
  have s0 := src_val c 0; have s1 := src_val c 1; have s2 := src_val c 2; have s3 := src_val c 3
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  have h1 := step_seen (init_seen (s := ksc X Wq K b kh r) (v := kvals V b kh) r) (keyOf (src c 0)) (by simp)
    (score_eq ρ H c (src c 0) b kh r) (fun j d => vslab_apply ρ H (src c 0) b kh d j)
  have h2 := step_seen h1 (keyOf (src c 1)) (fun j hj => by
    simp only [Finset.mem_union, mem_keysOf, keyOf_div, Finset.notMem_empty, false_or] at hj; omega)
    (score_eq ρ H c (src c 1) b kh r) (fun j d => vslab_apply ρ H (src c 1) b kh d j)
  have h3 := step_seen h2 (keyOf (src c 3)) (fun j hj => by
    simp only [Finset.mem_union, mem_keysOf, keyOf_div, Finset.notMem_empty, false_or] at hj; omega)
    (score_eq ρ H c (src c 3) b kh r) (fun j d => vslab_apply ρ H (src c 3) b kh d j)
  have h4 := step_seen h3 (keyOf (src c 2)) (fun j hj => by
    simp only [Finset.mem_union, mem_keysOf, keyOf_div, Finset.notMem_empty, false_or] at hj; omega)
    (score_eq ρ H c (src c 2) b kh r) (fun j d => vslab_apply ρ H (src c 2) b kh d j)
  have hu : (∅ ∪ keysOf (src c 0) ∪ keysOf (src c 1) ∪ keysOf (src c 3) ∪ keysOf (src c 2) : Finset (Fin 2048)) = Finset.univ := by
    refine Finset.eq_univ_of_forall fun k => ?_
    simp only [Finset.mem_union, mem_keysOf, Finset.notMem_empty, false_or]
    omega
  rw [← hu]
  exact h4

/-- A row's quotient is its head's attention. -/
theorem quot_eq (H : Holds m X Wq K V Wo) (c : Dev nD) (b kh : Fin 2) (r : Fin 1024) (d : Fin 64) :
    Ideal.div ((st4 m ρ c b kh).o (ix2 r d)) ((st4 m ρ c b kh).l (ix2 r 0)) = Spec.att X Wq K V b (rowOf r) (headOf kh r) d := by
  have h := st4_seen ρ H c b kh r
  obtain ⟨r₀, hr⟩ := Cert.Consts.ofBits_start
  unfold RowSeen at h
  rw [hr] at h
  rw [h.quot_exp2 (c := 1 / 8) (by norm_num) d]
  unfold Spec.att
  rw [head_div]

theorem heads_eq (H : Holds m X Wq K V Wo) (c : Dev nD) (b kh : Fin 2) (i col : Fin 256) (col' : Fin 512)
    (h : col'.val = 256 * kh.val + col.val) :
    heads (st4 m ρ c b kh) (ix2 i col) = Spec.att X Wq K V b i ⟨col' / 64, by omega⟩ ⟨col' % 64, by omega⟩ := by
  rw [heads_apply, quot_eq ρ H]
  have e1 : rowOf ⟨col.val / 64 * 256 + i.val, by omega⟩ = i := Fin.ext (by
    show (col.val / 64 * 256 + i.val) % 256 = i.val; omega)
  have e2 : headOf kh ⟨col.val / 64 * 256 + i.val, by omega⟩ = ⟨col'.val / 64, by omega⟩ := Fin.ext (by
    show kh.val * 4 + (col.val / 64 * 256 + i.val) / 256 = col'.val / 64; omega)
  have e3 : (⟨col.val % 64, by omega⟩ : Fin 64) = ⟨col'.val % 64, by omega⟩ := Fin.ext (by
    show col.val % 64 = col'.val % 64; omega)
  rw [e1, e2, e3]

theorem finish_eq (H : Holds m X Wq K V Wo) (c : Dev nD) (b : Fin 2) (i : Fin 256) (n : Fin 768) :
    finish (val159 m ρ c) (st4 m ρ c b 0) (st4 m ρ c b 1) (ix3 0 i n) = Spec.result X Wq K V Wo b i n := by
  rw [finish_apply]
  refine Finset.sum_congr rfl fun col _ => ?_
  rw [val159_apply, woread_apply, H.wo]
  congr 1
  split
  · next h => exact heads_eq ρ H c b 0 i _ col (by show col.val = 256 * 0 + col.val; omega)
  · next h => exact heads_eq ρ H c b 1 i _ col (by show col.val = 256 * 1 + (col.val - 256); omega)

theorem out_eq (H : Holds m X Wq K V Wo) (c : Dev nD) (b : Fin 2) (i : Fin 256) (n : Fin 768) :
    outBlk m ρ c (ix3 b i n) = Spec.result X Wq K V Wo b i n := by
  have hb : inBatch (ix3 b i n : S2x256x768.Idx) = (ix3 0 i n : S1x256x768.Idx) := by
    funext a
    match a with
    | ⟨0, _⟩ => rfl
    | ⟨1, _⟩ => rfl
    | ⟨2, _⟩ => rfl
  unfold outBlk
  rw [hb, out0_eq, out1_eq]
  match b with
  | 0 => exact (if_pos rfl).trans (finish_eq ρ H c 0 i n)
  | 1 => exact (if_neg (show ¬ (1 : ℕ) = 0 by decide)).trans (finish_eq ρ H c 1 i n)

end Cert.KernelIdealProof
-- ==== Proof.RefValue.lean ====
/-
# The reference read at an index, over the reals

The reference is two equal steps of a running softmax over 1024 keys each, between the queries' product and the
output product. Here are its stages by name, and each read at an index.
-/
module

public import proofs.«01_k».proof.Proof.Gen.ReferenceIdeal
public import proofs.«01_k».proof.Proof.Softmax
public import proofs.«01_k».proof.Proof.Consts
public import Idealize.ShloMosaic.Lib.Pointwise

@[expose] public section

noncomputable section

namespace Cert.ReferenceIdeal.Value

open Cert.ReferenceIdeal Cert.ReferenceIdeal.Gen Idealize.ShloMosaic Idealize.ShloMosaic.TcCoe

variable {F : FTy → Type} [FloatOps F]

def rQ (x : FVec F S2x256x768 .bf16) (wq : FVec F S768x512 .bf16) : FVec F S2x256x8x64 .f32 :=
  shapeCast S2x256x8x64 (extf .f32 (truncf .bf16 (Host.dotGeneral dot_S2x256x768_S768x512_S2x256x512_2_0_01_1_n_n none
    (extf .f32 x bitsLt_bf16_f32) (extf .f32 wq bitsLt_bf16_f32)) bitsLt_bf16_f32) bitsLt_bf16_f32) shapeCasts_S2x256x512_S2x256x8x64

/-- Keys or values, every head pair repeated four times. -/
def rRep (k : FVec F S2x2048x2x64 .bf16) : FVec F S2x2048x8x64 .f32 :=
  shapeCast S2x2048x8x64 (broadcastInDim S2x2048x2x4x64 ![0, 1, 2, 4] bcast_S2x2048x2x64_S2x2048x2x4x64_0_1_2_4
    (extf .f32 k bitsLt_bf16_f32)) shapeCasts_S2x2048x2x4x64_S2x2048x8x64

def rC0 (k : FVec F S2x2048x2x64 .bf16) : FVec F S2x1024x8x64 .f32 :=
  extractStridedSlice S2x1024x8x64 ![0, 0, 0, 0] (rRep k) slices_S2x2048x8x64_S2x1024x8x64_0_0_0_0

def rC1 (k : FVec F S2x2048x2x64 .bf16) : FVec F S2x1024x8x64 .f32 :=
  extractStridedSlice S2x1024x8x64 ![0, 1024, 0, 0] (rRep k) slices_S2x2048x8x64_S2x1024x8x64_0_1024_0_0

def rS (q : FVec F S2x256x8x64 .f32) (k : FVec F S2x1024x8x64 .f32) : FVec F S2x8x256x1024 .f32 :=
  mulf (extf .f32 (truncf .bf16 (Host.dotGeneral dot_S2x256x8x64_S2x1024x8x64_S2x8x256x1024_3_3_1_1_02_02 none q k)
    bitsLt_bf16_f32) bitsLt_bf16_f32) (broadcastInDim S2x8x256x1024 ![] bcast_S_S2x8x256x1024 (constant S_ .f32 0x3E000000#32))

def rM (m : FVec F S2x8x256x1 .f32) (s : FVec F S2x8x256x1024 .f32) : FVec F S2x8x256x1 .f32 :=
  maximumf m (broadcastInDim S2x8x256x1 ![0, 1, 2] bcast_S2x8x256_S2x8x256x1_0_1_2
    (Host.reduce FloatOps.maximumf s (constant S_ .f32 0xFF800000#32) reducesTo_S2x8x256x1024_S2x8x256_d3 h_S_))

def rA (m : FVec F S2x8x256x1 .f32) (s : FVec F S2x8x256x1024 .f32) : FVec F S2x8x256x1 .f32 := Host.exp (subf m (rM m s))

def rP (m : FVec F S2x8x256x1 .f32) (s : FVec F S2x8x256x1024 .f32) : FVec F S2x8x256x1024 .f32 :=
  Host.exp (subf s (broadcastInDim S2x8x256x1024 ![0, 1, 2, 3] bcast_S2x8x256x1_S2x8x256x1024_0_1_2_3 (rM m s)))

def rL (m l : FVec F S2x8x256x1 .f32) (s : FVec F S2x8x256x1024 .f32) : FVec F S2x8x256x1 .f32 :=
  addf (mulf l (rA m s)) (broadcastInDim S2x8x256x1 ![0, 1, 2] bcast_S2x8x256_S2x8x256x1_0_1_2
    (Host.reduceAdd (rP m s) (constant S_ .f32 0x00000000#32) reducesTo_S2x8x256x1024_S2x8x256_d3 h_S_))

/-- A column of rows, set beside the queries' layout. -/
def rT (a : FVec F S2x8x256x1 .f32) : FVec F S2x256x8x64 .f32 :=
  broadcastInDim S2x256x8x64 ![0, 1, 2, 3] bcast_S2x256x8x1_S2x256x8x64_0_1_2_3
    (transpose S2x256x8x1 [0, 2, 1, 3] a transposes_S2x8x256x1_S2x256x8x1_0_2_1_3)

def rO (m : FVec F S2x8x256x1 .f32) (o : FVec F S2x256x8x64 .f32) (s : FVec F S2x8x256x1024 .f32) (v : FVec F S2x1024x8x64 .f32) :
    FVec F S2x256x8x64 .f32 :=
  addf (mulf o (rT (rA m s))) (transpose S2x256x8x64 [0, 3, 1, 2]
    (Host.dotGeneral dot_S2x1024x8x64_S2x8x256x1024_S2x8x64x256_1_3_3_2_02_01 none v (rP m s)) transposes_S2x8x64x256_S2x256x8x64_0_3_1_2)

def rm0 : FVec F S2x8x256x1 .f32 := broadcastInDim S2x8x256x1 ![] bcast_S_S2x8x256x1 (constant S_ .f32 0xFF800000#32)
def rl0 : FVec F S2x8x256x1 .f32 := broadcastInDim S2x8x256x1 ![] bcast_S_S2x8x256x1 (constant S_ .f32 0x00000000#32)
def ro0 : FVec F S2x256x8x64 .f32 := broadcastInDim S2x256x8x64 ![] bcast_S_S2x256x8x64 (constant S_ .f32 0x00000000#32)

section
variable (q : FVec F S2x256x8x64 .f32) (k v : FVec F S2x2048x2x64 .bf16)
def rm1 : FVec F S2x8x256x1 .f32 := rM rm0 (rS q (rC0 k))
def rl1 : FVec F S2x8x256x1 .f32 := rL rm0 rl0 (rS q (rC0 k))
def ro1 : FVec F S2x256x8x64 .f32 := rO rm0 ro0 (rS q (rC0 k)) (rC0 v)
def rl2 : FVec F S2x8x256x1 .f32 := rL (rm1 q k) (rl1 q k) (rS q (rC1 k))
def ro2 : FVec F S2x256x8x64 .f32 := rO (rm1 q k) (ro1 q k v) (rS q (rC1 k)) (rC1 v)
end

def rEnd (o : FVec F S2x256x8x64 .f32) (l : FVec F S2x8x256x1 .f32) (wo : FVec F S512x768 .bf16) : FVec F S2x256x768 .f32 :=
  Host.dotGeneral dot_S2x256x512_S512x768_S2x256x768_2_0_01_1_n_n none
    (shapeCast S2x256x512 (Host.divf o (rT l)) shapeCasts_S2x256x8x64_S2x256x512) (extf .f32 wo bitsLt_bf16_f32)

theorem rQ_apply (x : FVec Ideal S2x256x768 .bf16) (wq : FVec Ideal S768x512 .bf16) (b : Fin 2) (i : Fin 256) (h : Fin 8) (d : Fin 64) :
    rQ x wq (ix4 b i h d) = ∑ e : Fin 768, x (ix3 b i e) * wq (ix2 e ⟨h * 64 + d, by omega⟩) := by
  pointwise [rQ]

theorem rC0_apply (k : FVec Ideal S2x2048x2x64 .bf16) (b : Fin 2) (j : Fin 1024) (h : Fin 8) (d : Fin 64) :
    rC0 k (ix4 b j h d) = k (ix4 b ⟨j, by omega⟩ ⟨h / 4, by omega⟩ d) := by
  pointwise [rC0, rRep]

theorem rC1_apply (k : FVec Ideal S2x2048x2x64 .bf16) (b : Fin 2) (j : Fin 1024) (h : Fin 8) (d : Fin 64) :
    rC1 k (ix4 b j h d) = k (ix4 b ⟨1024 + j, by omega⟩ ⟨h / 4, by omega⟩ d) := by
  pointwise [rC1, rRep]

theorem rS_apply (q : FVec Ideal S2x256x8x64 .f32) (k : FVec Ideal S2x1024x8x64 .f32) (b : Fin 2) (h : Fin 8) (i : Fin 256) (j : Fin 1024) :
    rS q k (ix4 b h i j) = (∑ d : Fin 64, q (ix4 b i h d) * k (ix4 b j h d)) * ((1 / 8 : ℝ) : EReal) := by
  rw [← Cert.Consts.ofBits_eighth]
  pointwise [rS]

theorem reduce_max_last {n0 n1 n2 n3 : ℕ} {t u : Shape} (h : (⟨4, ![n0, n1, n2, n3]⟩ : Shape).ReducesTo [3] t)
    (s : FVec Ideal ⟨4, ![n0, n1, n2, n3]⟩ .f32) (init : FVec Ideal u .f32) (hu : 0 < u.numel) (j : t.Idx) :
    Host.reduce FloatOps.maximumf s init h hu j = (Finset.univ : Finset (Fin n3)).fold max (init (Shape.Idx.first hu))
      (fun k => s (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k)) := by
  rw [Host.reduce_eq_fold]
  exact h.fold_fiber_r4_a3 j _ _ _

theorem fold_max_bot {n : ℕ} (f : Fin n → EReal) : (Finset.univ : Finset (Fin n)).fold max ⊥ f = Finset.univ.sup f := rfl

theorem max_bcast_apply (m : FVec Ideal S2x8x256x1 .f32) (R : FVec Ideal S2x8x256 .f32) (b : Fin 2) (h : Fin 8) (i : Fin 256) :
    maximumf m (broadcastInDim S2x8x256x1 ![0, 1, 2] bcast_S2x8x256_S2x8x256x1_0_1_2 R) (ix4 b h i 0)
      = m (ix4 b h i 0) ⊔ R (ix3 b h i) := by
  pointwise

theorem rM_apply (m : FVec Ideal S2x8x256x1 .f32) (s : FVec Ideal S2x8x256x1024 .f32) (b : Fin 2) (h : Fin 8) (i : Fin 256) :
    rM m s (ix4 b h i 0) = m (ix4 b h i 0) ⊔ Finset.univ.sup fun j => s (ix4 b h i j) := by
  unfold rM
  rw [max_bcast_apply, reduce_max_last, constant_apply, Ideal.ofBits_def, Cert.Consts.ofBits_neg_inf, fold_max_bot]
  rfl

theorem rA_apply (m : FVec Ideal S2x8x256x1 .f32) (s : FVec Ideal S2x8x256x1024 .f32) (b : Fin 2) (h : Fin 8) (i : Fin 256) :
    rA m s (ix4 b h i 0) = Ideal.exp (m (ix4 b h i 0) - rM m s (ix4 b h i 0)) := by
  pointwise [rA]

theorem rP_apply (m : FVec Ideal S2x8x256x1 .f32) (s : FVec Ideal S2x8x256x1024 .f32) (b : Fin 2) (h : Fin 8) (i : Fin 256) (j : Fin 1024) :
    rP m s (ix4 b h i j) = Ideal.exp (s (ix4 b h i j) - rM m s (ix4 b h i 0)) := by
  pointwise [rP]

theorem rL_apply (m l : FVec Ideal S2x8x256x1 .f32) (s : FVec Ideal S2x8x256x1024 .f32) (b : Fin 2) (h : Fin 8) (i : Fin 256) :
    rL m l s (ix4 b h i 0) = l (ix4 b h i 0) * rA m s (ix4 b h i 0) + ∑ j : Fin 1024, rP m s (ix4 b h i j) := by
  pointwise [rL]

theorem rO_apply (m : FVec Ideal S2x8x256x1 .f32) (o : FVec Ideal S2x256x8x64 .f32) (s : FVec Ideal S2x8x256x1024 .f32)
    (v : FVec Ideal S2x1024x8x64 .f32) (b : Fin 2) (h : Fin 8) (i : Fin 256) (d : Fin 64) :
    rO m o s v (ix4 b i h d) = o (ix4 b i h d) * rA m s (ix4 b h i 0) + ∑ j : Fin 1024, rP m s (ix4 b h i j) * v (ix4 b j h d) := by
  pointwise [rO, rT]
  exact congrArg _ (Finset.sum_congr rfl fun j _ => mul_comm _ _)

theorem rm0_apply (b : Fin 2) (h : Fin 8) (i : Fin 256) : (rm0 : FVec Ideal S2x8x256x1 .f32) (ix4 b h i 0) = ⊥ := by
  rw [← Cert.Consts.ofBits_neg_inf]; pointwise [rm0]

theorem rl0_apply (b : Fin 2) (h : Fin 8) (i : Fin 256) : (rl0 : FVec Ideal S2x8x256x1 .f32) (ix4 b h i 0) = 0 := by
  pointwise [rl0]

theorem ro0_apply (b : Fin 2) (h : Fin 8) (i : Fin 256) (d : Fin 64) : (ro0 : FVec Ideal S2x256x8x64 .f32) (ix4 b i h d) = 0 := by
  pointwise [ro0]

theorem rEnd_apply (o : FVec Ideal S2x256x8x64 .f32) (l : FVec Ideal S2x8x256x1 .f32) (wo : FVec Ideal S512x768 .bf16)
    (b : Fin 2) (i : Fin 256) (n : Fin 768) :
    rEnd o l wo (ix3 b i n) = ∑ col : Fin 512,
      Ideal.div (o (ix4 b i ⟨col / 64, by omega⟩ ⟨col % 64, by omega⟩)) (l (ix4 b ⟨col / 64, by omega⟩ i 0)) * wo (ix2 col n) := by
  pointwise [rEnd, rT]

end Cert.ReferenceIdeal.Value
-- ==== Proof.RefFold.lean ====
/-
# The reference's term is its stages composed
-/
module

public import proofs.«01_k».proof.Proof.Gen.ReferenceIdeal.Run
public import proofs.«01_k».proof.Proof.RefValue

@[expose] public section

noncomputable section

namespace Cert.ReferenceIdeal.Value

open Cert.ReferenceIdeal Cert.ReferenceIdeal.Gen Idealize.ShloMosaic Idealize.ShloMosaic.TcCoe

variable {F : FTy → Type} [FloatOps F]
variable (m : (ℓ : Loc nD τ sig) → Buf (Elt F) ℓ) (c : Dev nD)

abbrev aX : FVec F S2x256x768 .bf16 := m ((c.tc : Thread nD τ).loc main_arg0)
abbrev aWq : FVec F S768x512 .bf16 := m ((c.tc : Thread nD τ).loc main_arg1)
abbrev aK : FVec F S2x2048x2x64 .bf16 := m ((c.tc : Thread nD τ).loc main_arg2)
abbrev aV : FVec F S2x2048x2x64 .bf16 := m ((c.tc : Thread nD τ).loc main_arg3)
abbrev aWo : FVec F S512x768 .bf16 := m ((c.tc : Thread nD τ).loc main_arg4)

theorem res_eq : res_main_v70 m c = rEnd (ro2 (rQ (aX m c) (aWq m c)) (aK m c) (aV m c)) (rl2 (rQ (aX m c) (aWq m c)) (aK m c)) (aWo m c) :=
  rfl

end Cert.ReferenceIdeal.Value
-- ==== Proof.RefResult.lean ====
/-
# The reference computes the layer
-/
module

public import proofs.«01_k».proof.Proof.RefFold
public import proofs.«01_k».proof.Proof.Spec

@[expose] public section

noncomputable section

namespace Cert.ReferenceIdeal.Value

open Cert.ReferenceIdeal Cert.ReferenceIdeal.Gen Idealize.ShloMosaic Idealize.ShloMosaic.TcCoe
open Cert.Softmax

variable (X : FVec Ideal S2x256x768 .bf16) (Wq : FVec Ideal S768x512 .bf16) (K V : FVec Ideal S2x2048x2x64 .bf16)
  (Wo : FVec Ideal S512x768 .bf16) (b : Fin 2) (i : Fin 256) (h : Fin 8)

/-- The scores and values of one query, over all keys. -/
abbrev sc (j : Fin 2048) : EReal := Spec.score X Wq K b i h j * ((1 / 8 : ℝ) : EReal)
abbrev vals (j : Fin 2048) (d : Fin 64) : EReal := V (ix4 b j ⟨h / 4, by omega⟩ d)

/-- The first and the second 1024 keys. -/
def lo : Fin 1024 ↪ Fin 2048 := ⟨fun j => ⟨j, by omega⟩, fun a b e => Fin.ext (by have := congrArg Fin.val e; exact this)⟩
def hi : Fin 1024 ↪ Fin 2048 := ⟨fun j => ⟨1024 + j, by omega⟩, fun a b e => Fin.ext (by have := congrArg Fin.val e; change 1024 + a.val = 1024 + b.val at this; omega)⟩

theorem seen1 : Seen Ideal.exp ⊥ (sc X Wq K b i h) (vals V b h) (∅ ∪ Finset.univ.map lo)
    (rm1 (rQ X Wq) K (ix4 b h i 0)) (rl1 (rQ X Wq) K (ix4 b h i 0)) (fun d => ro1 (rQ X Wq) K V (ix4 b i h d)) := by
  refine Seen.step' isExp_exp Seen.empty lo (by simp) (fun j => rS (rQ X Wq) (rC0 K) (ix4 b h i j)) (fun j d => rC0 V (ix4 b j h d))
    (fun j => ?_) (fun j d => ?_) ?_ ?_ (fun d => ?_)
  · rw [rS_apply]; simp only [rQ_apply, rC0_apply]; rfl
  · rw [rC0_apply]; rfl
  · rw [rm1, rM_apply, rm0_apply]
  · rw [rl1, rL_apply, rl0_apply, rA_apply, rm0_apply]; simp only [rP_apply]; rfl
  · rw [ro1, rO_apply, ro0_apply, rA_apply, rm0_apply]; simp only [rP_apply]; rfl

theorem seen2 : Seen Ideal.exp ⊥ (sc X Wq K b i h) (vals V b h) (∅ ∪ Finset.univ.map lo ∪ Finset.univ.map hi)
    (rM (rm1 (rQ X Wq) K) (rS (rQ X Wq) (rC1 K)) (ix4 b h i 0)) (rl2 (rQ X Wq) K (ix4 b h i 0))
    (fun d => ro2 (rQ X Wq) K V (ix4 b i h d)) := by
  refine Seen.step' isExp_exp (seen1 X Wq K V b i h) hi (fun j hj => ?_) (fun j => rS (rQ X Wq) (rC1 K) (ix4 b h i j))
    (fun j d => rC1 V (ix4 b j h d)) (fun j => ?_) (fun j d => ?_) ?_ ?_ (fun d => ?_)
  · simp only [Finset.empty_union, Finset.mem_map, Finset.mem_univ, true_and] at hj
    obtain ⟨k, hk⟩ := hj
    have := congrArg Fin.val hk
    have h1 : (lo k).val = k.val := rfl
    have h2 : (hi j).val = 1024 + j.val := rfl
    omega
  · rw [rS_apply]; simp only [rQ_apply, rC1_apply]; rfl
  · rw [rC1_apply]; rfl
  · rw [rM_apply]
  · rw [rl2, rL_apply, rA_apply]; simp only [rP_apply]
  · rw [ro2, rO_apply, rA_apply]; simp only [rP_apply]

theorem all_keys : (∅ ∪ Finset.univ.map lo ∪ Finset.univ.map hi : Finset (Fin 2048)) = Finset.univ := by
  refine Finset.eq_univ_of_forall fun j => ?_
  by_cases hj : j.val < 1024
  · exact Finset.mem_union_left _ (Finset.mem_union_right _ (Finset.mem_map.mpr ⟨⟨j, hj⟩, Finset.mem_univ _, rfl⟩))
  · refine Finset.mem_union_right _ (Finset.mem_map.mpr ⟨⟨j - 1024, by omega⟩, Finset.mem_univ _, Fin.ext ?_⟩)
    show 1024 + (j.val - 1024) = j.val
    omega

theorem quot (d : Fin 64) : Ideal.div (ro2 (rQ X Wq) K V (ix4 b i h d)) (rl2 (rQ X Wq) K (ix4 b h i 0)) = Spec.att X Wq K V b i h d := by
  have H := seen2 X Wq K V b i h
  rw [all_keys] at H
  exact H.quot_exp d

theorem end_apply (n : Fin 768) : rEnd (ro2 (rQ X Wq) K V) (rl2 (rQ X Wq) K) Wo (ix3 b i n) = Spec.result X Wq K V Wo b i n := by
  rw [rEnd_apply]
  exact Finset.sum_congr rfl fun col _ => by rw [quot]

theorem res_apply (m : (ℓ : Loc nD τ sig) → Buf (Elt Ideal) ℓ) (c : Dev nD) (n : Fin 768) :
    (res_main_v70 m c : FVec Ideal S2x256x768 .f32) (ix3 b i n)
      = Spec.result (aX m c) (aWq m c) (aK m c) (aV m c) (aWo m c) b i n := by
  rw [res_eq]; exact end_apply _ _ _ _ _ b i n

end Cert.ReferenceIdeal.Value
-- ==== Proof.Algebraic.lean ====
/-
# The two programs compute the same layer over the reals

Both results are, element by element, `Spec.result` of the whole arrays (Proof/KernelIdeal/Result.lean,
Proof/RefResult.lean); a device's quarter of a cache is its block of the whole.
-/
module

public import proofs.«01_k».proof.Proof.Frames
public import proofs.«01_k».proof.Proof.KernelIdeal.Result
public import proofs.«01_k».proof.Proof.RefResult
public import Idealize.ShloMosaic.Lib.Layout

@[expose] public section

noncomputable section

namespace Cert.Claims

open Idealize.ShloMosaic Idealize.ShloMosaic.TcCoe Idealize.SL.Sem

/-- Device `c`'s block of a cache, at an index: its key `j` is the whole cache's key `512 c + j`. -/
theorem block_key (W : (⟨4, ![2, 2048, 2, 64]⟩ : Shape).Idx → EReal) (c : Fin 4) (b : Fin 2) (j : Fin 512) (kh : Fin 2) (d : Fin 64) :
    (Layout.block ⟨4, ![2, 512, 2, 64]⟩ ⟨4, ![2, 2048, 2, 64]⟩ 1 4 c W) (ix4 b j kh d)
      = W (ix4 b (Cert.KernelIdealProof.keyOf c j) kh d) := by
  rw [Layout.block_apply]
  congr 1
  funext a
  apply Fin.ext
  rw [Layout.Tiles.idx_val]
  match a with
  | ⟨0, _⟩ => rfl
  | ⟨1, _⟩ => show c.val * 512 + j.val = 512 * c.val + j.val; omega
  | ⟨2, _⟩ => rfl
  | ⟨3, _⟩ => rfl

theorem algebraic : Cert.algebraic_KernelIdeal_ReferenceIdeal := by
  intro m g m' g' _ hm
  have H : Cert.KernelIdealProof.Holds m (Cert.ReferenceIdeal.Value.aX m' 0) (Cert.ReferenceIdeal.Value.aWq m' 0)
      (Cert.ReferenceIdeal.Value.aK m' 0) (Cert.ReferenceIdeal.Value.aV m' 0) (Cert.ReferenceIdeal.Value.aWo m' 0) :=
    { x := fun c b i e => congrFun (hm c).1 _
      wq := fun c e n => congrFun (hm c).2.1 _
      k := fun c b j kh d => (congrFun (hm c).2.2.1 _).trans (block_key _ c b j kh d)
      v := fun c b j kh d => (congrFun (hm c).2.2.2.1 _).trans (block_key _ c b j kh d)
      wo := fun c e n => congrFun (hm c).2.2.2.2 _ }
  have key : ∀ c, Cert.KernelIdealProof.finalA m g c (5 : Fin 6) = Cert.ReferenceIdeal.Value.res_main_v70 m' 0 := by
    intro c
    rw [Cert.KernelIdealProof.finalA_out]
    funext i
    obtain ⟨b, r, n, rfl⟩ : ∃ (b : Fin 2) (r : Fin 256) (n : Fin 768), i = ix3 b r n := ⟨i 0, i 1, i 2, eq_ix3 i⟩
    exact (Cert.KernelIdealProof.out_eq g H c b r n).trans (Cert.ReferenceIdeal.Value.res_apply b r m' 0 n).symm
  refine ⟨Cert.ReferenceIdeal.Value.res_main_v70 m' 0, ?_, ?_⟩
  · exact (θ_run Cert.KernelIdeal.defs _ _).mono (fun r h c => ⟨((h.1 c).1).trans (key c), (h.1 c).2⟩) (run_ideal m g)
  · exact (θ_run Cert.ReferenceIdeal.defs _ _).mono (fun r h => h 0) (Cert.ReferenceIdeal.Value.run (F := Ideal) m' g')

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Claims.frame_p, Cert.Claims.frame_pi, Cert.Claims.frame_ri, Cert.Claims.preserves, Cert.Claims.algebraic⟩

end Cert.Proof

end
